-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_ids_in_table_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S16384x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S1024x1 : Shape := ⟨2, ![1024, 1]⟩
abbrev S1024x1024 : Shape := ⟨2, ![1024, 1024]⟩
abbrev S512x1024 : Shape := ⟨2, ![512, 1024]⟩
abbrev S8 : Shape := ⟨1, ![8]⟩
abbrev S_ : Shape := ⟨0, ![]⟩
abbrev S1 : Shape := ⟨1, ![1]⟩
abbrev S1x1024 : Shape := ⟨2, ![1, 1024]⟩
abbrev S64x1 : Shape := ⟨2, ![64, 1]⟩
abbrev S64x1024 : Shape := ⟨2, ![64, 1024]⟩

abbrev nBuf : Space → Nat
  | .hbm => 4
  | .vmem => 7
  | .smem => 2
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S1024x1, .i32⟩
  | .hbm, ⟨3, _⟩ => ⟨S1024x1024, .f32⟩
  | .local _ .vmem, ⟨0, _⟩ => ⟨S1024x1, .i32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .smem, ⟨0, _⟩ => ⟨S1024, .i32⟩
  | .local _ .smem, ⟨1, _⟩ => ⟨S8, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg0_0 : Ref sig .tc := ⟨.smem, 0, rfl⟩
abbrev cc0_scratch6 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

@[reducible] def k0_t1_loop : Scf.Loop 32 :=
  let c0_i32_4 : BitVec 32 := 0#32
  let c64_i32 : BitVec 32 := 64#32
  let v10 : BitVec 32 := Scalar.addi c0_i32_4 c64_i32
  let c1_i32_5 : BitVec 32 := 1#32
  ⟨c0_i32_4, v10, c1_i32_5⟩
def k0_off1 (d0 : Dev nD) (k0_t1 : Fin k0_t1_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_761 : BitVec 32 := 0#32
  let c0_i32_4 : BitVec 32 := 0#32
  let c1_i32_5 : BitVec 32 := 1#32
  let arg17 : BitVec 32 := Scf.iv c0_i32_4 c1_i32_5 k0_t1
  let v819 : BitVec 32 := Scalar.addi c0_i32_761 arg17
  let v820 : BitVec 32 := Scalar.addi v8 v819
  let v821 : Index := Scalar.indexCast v820
  ![v821.toNat]
def k0_off2 (k0_t1 : Fin k0_t1_loop.trips) : Fin 2 → Nat :=
  let c0_i32_761 : BitVec 32 := 0#32
  let c0_i32_4 : BitVec 32 := 0#32
  let c1_i32_5 : BitVec 32 := 1#32
  let arg17 : BitVec 32 := Scf.iv c0_i32_4 c1_i32_5 k0_t1
  let v819 : BitVec 32 := Scalar.addi c0_i32_761 arg17
  let c0_i32_766 : BitVec 32 := 0#32
  ![v819.toNat, 0]
def k0_off3 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond1 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk1 (d0 : Dev nD) (v822 : BitVec 32) : Prop :=
  (∀ (k0_h1 : k0_cond1 d0 v822 = 1#1), ∀ a, (k0_off3 d0 v822) a + S1x1024.size a ≤ S8192x1024.size a)
theorem k0_off3_inb : ∀ (d0 : Dev nD) (v822 : BitVec 32) (k0_hw1 : k0_chk1 d0 v822), ∀ (k0_h1 : k0_cond1 d0 v822 = 1#1), ∀ a, (k0_off3 d0 v822) a + S1x1024.size a ≤ S8192x1024.size a := fun d0 v822 k0_hw1 k0_h1 => k0_hw1 k0_h1

@[reducible] def k0_t2_loop : Scf.Loop 32 :=
  let c0_i32_8 : BitVec 32 := 0#32
  let c64_i32_9 : BitVec 32 := 64#32
  let v13 : BitVec 32 := Scalar.addi c0_i32_8 c64_i32_9
  let c1_i32_10 : BitVec 32 := 1#32
  ⟨c0_i32_8, v13, c1_i32_10⟩
def k0_off4 (d0 : Dev nD) (k0_t2 : Fin k0_t2_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c64_i32_761 : BitVec 32 := 64#32
  let c0_i32_8 : BitVec 32 := 0#32
  let c1_i32_10 : BitVec 32 := 1#32
  let arg17 : BitVec 32 := Scf.iv c0_i32_8 c1_i32_10 k0_t2
  let v819 : BitVec 32 := Scalar.addi c64_i32_761 arg17
  let v820 : BitVec 32 := Scalar.addi v8 v819
  let v821 : Index := Scalar.indexCast v820
  ![v821.toNat]
def k0_off5 (k0_t2 : Fin k0_t2_loop.trips) : Fin 2 → Nat :=
  let c64_i32_761 : BitVec 32 := 64#32
  let c0_i32_8 : BitVec 32 := 0#32
  let c1_i32_10 : BitVec 32 := 1#32
  let arg17 : BitVec 32 := Scf.iv c0_i32_8 c1_i32_10 k0_t2
  let v819 : BitVec 32 := Scalar.addi c64_i32_761 arg17
  let c0_i32_766 : BitVec 32 := 0#32
  ![v819.toNat, 0]
def k0_off6 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond2 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk2 (d0 : Dev nD) (v822 : BitVec 32) : Prop :=
  (∀ (k0_h2 : k0_cond2 d0 v822 = 1#1), ∀ a, (k0_off6 d0 v822) a + S1x1024.size a ≤ S8192x1024.size a)
theorem k0_off6_inb : ∀ (d0 : Dev nD) (v822 : BitVec 32) (k0_hw2 : k0_chk2 d0 v822), ∀ (k0_h2 : k0_cond2 d0 v822 = 1#1), ∀ a, (k0_off6 d0 v822) a + S1x1024.size a ≤ S8192x1024.size a := fun d0 v822 k0_hw2 k0_h2 => k0_hw2 k0_h2

def k0_dev1 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v17 : BitVec 32 := Scalar.muli v6 c2_i32_13
  let v18 : BitVec 32 := Scalar.addi c0_i32_14 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v19 : BitVec 32 := Scalar.muli v5 c1_i32_15
  let v20 : BitVec 32 := Scalar.addi v18 v19
  v20.toNat
def k0_dev2 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v21 : BitVec 32 := Scalar.muli v2 c2_i32_17
  let v22 : BitVec 32 := Scalar.addi c0_i32_18 v21
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_19 : BitVec 32 := 1#32
  let v23 : BitVec 32 := Scalar.muli v7 c1_i32_19
  let v24 : BitVec 32 := Scalar.addi v22 v23
  v24.toNat
@[reducible] def k0_t3_loop (v25 : BitVec 32) : Scf.Loop 32 :=
  let c0_i32_22 : BitVec 32 := 0#32
  let v26 : BitVec 32 := Scalar.subi v25 c0_i32_22
  let c1_i32_24 : BitVec 32 := 1#32
  let v28 : BitVec 32 := Scalar.divsi v26 c1_i32_24
  let v29 : BitVec 32 := Scalar.muli v28 c1_i32_24
  let v30 : BitVec 32 := Scalar.addi c0_i32_22 v29
  let c1_i32_25 : BitVec 32 := 1#32
  ⟨c0_i32_22, v30, c1_i32_25⟩

@[reducible] def k0_t4_loop (v25 : BitVec 32) : Scf.Loop 32 :=
  let c0_i32_22 : BitVec 32 := 0#32
  let v26 : BitVec 32 := Scalar.subi v25 c0_i32_22
  let c1_i32_24 : BitVec 32 := 1#32
  let v28 : BitVec 32 := Scalar.divsi v26 c1_i32_24
  let v29 : BitVec 32 := Scalar.muli v28 c1_i32_24
  let v30 : BitVec 32 := Scalar.addi c0_i32_22 v29
  let v27 : BitVec 32 := Scalar.addi c0_i32_22 v26
  let c1_i32_26 : BitVec 32 := 1#32
  ⟨v30, v27, c1_i32_26⟩

def k0_chk3 (v25 : BitVec 32) : Prop :=
  ((k0_t3_loop v25).OK) ∧
  ((k0_t4_loop v25).OK)
theorem k0_t3_ok : ∀ (v25 : BitVec 32) (k0_hw3 : k0_chk3 v25), (k0_t3_loop v25).OK := fun v25 k0_hw3 => k0_hw3.1
theorem k0_t4_ok : ∀ (v25 : BitVec 32) (k0_hw3 : k0_chk3 v25), (k0_t4_loop v25).OK := fun v25 k0_hw3 => k0_hw3.2

def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_27 : BitVec 32 := 0#32
  let v33 : BitVec 32 := Scalar.addi v8 c0_i32_27
  let v34 : Index := Scalar.indexCast v33
  let c0_28 : Index := 0#32
  ![v34.toNat, 0]
def k0_dev3 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v52 : BitVec 32 := Scalar.muli v6 c2_i32_36
  let v53 : BitVec 32 := Scalar.addi c0_i32_37 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v54 : BitVec 32 := Scalar.muli v5 c1_i32_38
  let v55 : BitVec 32 := Scalar.addi v53 v54
  v55.toNat
@[reducible] def k0_t5_loop : Scf.Loop 32 :=
  let c0_i32_44 : BitVec 32 := 0#32
  let c64_i32_45 : BitVec 32 := 64#32
  let v62 : BitVec 32 := Scalar.addi c0_i32_44 c64_i32_45
  let c1_i32_46 : BitVec 32 := 1#32
  ⟨c0_i32_44, v62, c1_i32_46⟩
def k0_off8 (d0 : Dev nD) (k0_t5 : Fin k0_t5_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c128_i32_761 : BitVec 32 := 128#32
  let c0_i32_44 : BitVec 32 := 0#32
  let c1_i32_46 : BitVec 32 := 1#32
  let arg17 : BitVec 32 := Scf.iv c0_i32_44 c1_i32_46 k0_t5
  let v819 : BitVec 32 := Scalar.addi c128_i32_761 arg17
  let v820 : BitVec 32 := Scalar.addi v8 v819
  let v821 : Index := Scalar.indexCast v820
  ![v821.toNat]
def k0_off9 (k0_t5 : Fin k0_t5_loop.trips) : Fin 2 → Nat :=
  let c128_i32_761 : BitVec 32 := 128#32
  let c0_i32_44 : BitVec 32 := 0#32
  let c1_i32_46 : BitVec 32 := 1#32
  let arg17 : BitVec 32 := Scf.iv c0_i32_44 c1_i32_46 k0_t5
  let v819 : BitVec 32 := Scalar.addi c128_i32_761 arg17
  let c0_i32_766 : BitVec 32 := 0#32
  ![v819.toNat, 0]
def k0_off10 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond3 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk4 (d0 : Dev nD) (v822 : BitVec 32) : Prop :=
  (∀ (k0_h3 : k0_cond3 d0 v822 = 1#1), ∀ a, (k0_off10 d0 v822) a + S1x1024.size a ≤ S8192x1024.size a)
theorem k0_off10_inb : ∀ (d0 : Dev nD) (v822 : BitVec 32) (k0_hw4 : k0_chk4 d0 v822), ∀ (k0_h3 : k0_cond3 d0 v822 = 1#1), ∀ a, (k0_off10 d0 v822) a + S1x1024.size a ≤ S8192x1024.size a := fun d0 v822 k0_hw4 k0_h3 => k0_hw4 k0_h3

@[reducible] def k0_t6_loop (v65 : BitVec 32) : Scf.Loop 32 :=
  let c0_i32_49 : BitVec 32 := 0#32
  let v66 : BitVec 32 := Scalar.subi v65 c0_i32_49
  let c1_i32_51 : BitVec 32 := 1#32
  let v68 : BitVec 32 := Scalar.divsi v66 c1_i32_51
  let v69 : BitVec 32 := Scalar.muli v68 c1_i32_51
  let v70 : BitVec 32 := Scalar.addi c0_i32_49 v69
  let c1_i32_52 : BitVec 32 := 1#32
  ⟨c0_i32_49, v70, c1_i32_52⟩

@[reducible] def k0_t7_loop (v65 : BitVec 32) : Scf.Loop 32 :=
  let c0_i32_49 : BitVec 32 := 0#32
  let v66 : BitVec 32 := Scalar.subi v65 c0_i32_49
  let c1_i32_51 : BitVec 32 := 1#32
  let v68 : BitVec 32 := Scalar.divsi v66 c1_i32_51
  let v69 : BitVec 32 := Scalar.muli v68 c1_i32_51
  let v70 : BitVec 32 := Scalar.addi c0_i32_49 v69
  let v67 : BitVec 32 := Scalar.addi c0_i32_49 v66
  let c1_i32_53 : BitVec 32 := 1#32
  ⟨v70, v67, c1_i32_53⟩

def k0_chk5 (v65 : BitVec 32) : Prop :=
  ((k0_t6_loop v65).OK) ∧
  ((k0_t7_loop v65).OK)
theorem k0_t6_ok : ∀ (v65 : BitVec 32) (k0_hw5 : k0_chk5 v65), (k0_t6_loop v65).OK := fun v65 k0_hw5 => k0_hw5.1
theorem k0_t7_ok : ∀ (v65 : BitVec 32) (k0_hw5 : k0_chk5 v65), (k0_t7_loop v65).OK := fun v65 k0_hw5 => k0_hw5.2

def k0_off11 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c64_i32_54 : BitVec 32 := 64#32
  let v73 : BitVec 32 := Scalar.addi v8 c64_i32_54
  let v74 : Index := Scalar.indexCast v73
  let c0_55 : Index := 0#32
  ![v74.toNat, 0]
def k0_dev4 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v92 : BitVec 32 := Scalar.muli v6 c2_i32_63
  let v93 : BitVec 32 := Scalar.addi c0_i32_64 v92
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v94 : BitVec 32 := Scalar.muli v5 c1_i32_65
  let v95 : BitVec 32 := Scalar.addi v93 v94
  v95.toNat
@[reducible] def k0_t8_loop : Scf.Loop 32 :=
  let c0_i32_71 : BitVec 32 := 0#32
  let c64_i32_72 : BitVec 32 := 64#32
  let v102 : BitVec 32 := Scalar.addi c0_i32_71 c64_i32_72
  let c1_i32_73 : BitVec 32 := 1#32
  ⟨c0_i32_71, v102, c1_i32_73⟩
def k0_off12 (d0 : Dev nD) (k0_t8 : Fin k0_t8_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c192_i32_761 : BitVec 32 := 192#32
  let c0_i32_71 : BitVec 32 := 0#32
  let c1_i32_73 : BitVec 32 := 1#32
  let arg17 : BitVec 32 := Scf.iv c0_i32_71 c1_i32_73 k0_t8
  let v819 : BitVec 32 := Scalar.addi c192_i32_761 arg17
  let v820 : BitVec 32 := Scalar.addi v8 v819
  let v821 : Index := Scalar.indexCast v820
  ![v821.toNat]
def k0_off13 (k0_t8 : Fin k0_t8_loop.trips) : Fin 2 → Nat :=
  let c192_i32_761 : BitVec 32 := 192#32
  let c0_i32_71 : BitVec 32 := 0#32
  let c1_i32_73 : BitVec 32 := 1#32
  let arg17 : BitVec 32 := Scf.iv c0_i32_71 c1_i32_73 k0_t8
  let v819 : BitVec 32 := Scalar.addi c192_i32_761 arg17
  let c0_i32_766 : BitVec 32 := 0#32
  ![v819.toNat, 0]
def k0_off14 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond4 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk6 (d0 : Dev nD) (v822 : BitVec 32) : Prop :=
  (∀ (k0_h4 : k0_cond4 d0 v822 = 1#1), ∀ a, (k0_off14 d0 v822) a + S1x1024.size a ≤ S8192x1024.size a)
theorem k0_off14_inb : ∀ (d0 : Dev nD) (v822 : BitVec 32) (k0_hw6 : k0_chk6 d0 v822), ∀ (k0_h4 : k0_cond4 d0 v822 = 1#1), ∀ a, (k0_off14 d0 v822) a + S1x1024.size a ≤ S8192x1024.size a := fun d0 v822 k0_hw6 k0_h4 => k0_hw6 k0_h4

@[reducible] def k0_t9_loop (v105 : BitVec 32) : Scf.Loop 32 :=
  let c0_i32_76 : BitVec 32 := 0#32
  let v106 : BitVec 32 := Scalar.subi v105 c0_i32_76
  let c1_i32_78 : BitVec 32 := 1#32
  let v108 : BitVec 32 := Scalar.divsi v106 c1_i32_78
  let v109 : BitVec 32 := Scalar.muli v108 c1_i32_78
  let v110 : BitVec 32 := Scalar.addi c0_i32_76 v109
  let c1_i32_79 : BitVec 32 := 1#32
  ⟨c0_i32_76, v110, c1_i32_79⟩

@[reducible] def k0_t10_loop (v105 : BitVec 32) : Scf.Loop 32 :=
  let c0_i32_76 : BitVec 32 := 0#32
  let v106 : BitVec 32 := Scalar.subi v105 c0_i32_76
  let c1_i32_78 : BitVec 32 := 1#32
  let v108 : BitVec 32 := Scalar.divsi v106 c1_i32_78
  let v109 : BitVec 32 := Scalar.muli v108 c1_i32_78
  let v110 : BitVec 32 := Scalar.addi c0_i32_76 v109
  let v107 : BitVec 32 := Scalar.addi c0_i32_76 v106
  let c1_i32_80 : BitVec 32 := 1#32
  ⟨v110, v107, c1_i32_80⟩

def k0_chk7 (v105 : BitVec 32) : Prop :=
  ((k0_t9_loop v105).OK) ∧
  ((k0_t10_loop v105).OK)
theorem k0_t9_ok : ∀ (v105 : BitVec 32) (k0_hw7 : k0_chk7 v105), (k0_t9_loop v105).OK := fun v105 k0_hw7 => k0_hw7.1
theorem k0_t10_ok : ∀ (v105 : BitVec 32) (k0_hw7 : k0_chk7 v105), (k0_t10_loop v105).OK := fun v105 k0_hw7 => k0_hw7.2

def k0_off15 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c128_i32 : BitVec 32 := 128#32
  let v113 : BitVec 32 := Scalar.addi v8 c128_i32
  let v114 : Index := Scalar.indexCast v113
  let c0_81 : Index := 0#32
  ![v114.toNat, 0]
def k0_dev5 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v132 : BitVec 32 := Scalar.muli v6 c2_i32_89
  let v133 : BitVec 32 := Scalar.addi c0_i32_90 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v134 : BitVec 32 := Scalar.muli v5 c1_i32_91
  let v135 : BitVec 32 := Scalar.addi v133 v134
  v135.toNat
@[reducible] def k0_t11_loop : Scf.Loop 32 :=
  let c0_i32_97 : BitVec 32 := 0#32
  let c64_i32_98 : BitVec 32 := 64#32
  let v142 : BitVec 32 := Scalar.addi c0_i32_97 c64_i32_98
  let c1_i32_99 : BitVec 32 := 1#32
  ⟨c0_i32_97, v142, c1_i32_99⟩
def k0_off16 (d0 : Dev nD) (k0_t11 : Fin k0_t11_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c256_i32_761 : BitVec 32 := 256#32
  let c0_i32_97 : BitVec 32 := 0#32
  let c1_i32_99 : BitVec 32 := 1#32
  let arg17 : BitVec 32 := Scf.iv c0_i32_97 c1_i32_99 k0_t11
  let v819 : BitVec 32 := Scalar.addi c256_i32_761 arg17
  let v820 : BitVec 32 := Scalar.addi v8 v819
  let v821 : Index := Scalar.indexCast v820
  ![v821.toNat]
def k0_off17 (k0_t11 : Fin k0_t11_loop.trips) : Fin 2 → Nat :=
  let c256_i32_761 : BitVec 32 := 256#32
  let c0_i32_97 : BitVec 32 := 0#32
  let c1_i32_99 : BitVec 32 := 1#32
  let arg17 : BitVec 32 := Scf.iv c0_i32_97 c1_i32_99 k0_t11
  let v819 : BitVec 32 := Scalar.addi c256_i32_761 arg17
  let c0_i32_766 : BitVec 32 := 0#32
  ![v819.toNat, 0]
def k0_off18 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond5 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk8 (d0 : Dev nD) (v822 : BitVec 32) : Prop :=
  (∀ (k0_h5 : k0_cond5 d0 v822 = 1#1), ∀ a, (k0_off18 d0 v822) a + S1x1024.size a ≤ S8192x1024.size a)
theorem k0_off18_inb : ∀ (d0 : Dev nD) (v822 : BitVec 32) (k0_hw8 : k0_chk8 d0 v822), ∀ (k0_h5 : k0_cond5 d0 v822 = 1#1), ∀ a, (k0_off18 d0 v822) a + S1x1024.size a ≤ S8192x1024.size a := fun d0 v822 k0_hw8 k0_h5 => k0_hw8 k0_h5

@[reducible] def k0_t12_loop (v145 : BitVec 32) : Scf.Loop 32 :=
  let c0_i32_102 : BitVec 32 := 0#32
  let v146 : BitVec 32 := Scalar.subi v145 c0_i32_102
  let c1_i32_104 : BitVec 32 := 1#32
  let v148 : BitVec 32 := Scalar.divsi v146 c1_i32_104
  let v149 : BitVec 32 := Scalar.muli v148 c1_i32_104
  let v150 : BitVec 32 := Scalar.addi c0_i32_102 v149
  let c1_i32_105 : BitVec 32 := 1#32
  ⟨c0_i32_102, v150, c1_i32_105⟩

@[reducible] def k0_t13_loop (v145 : BitVec 32) : Scf.Loop 32 :=
  let c0_i32_102 : BitVec 32 := 0#32
  let v146 : BitVec 32 := Scalar.subi v145 c0_i32_102
  let c1_i32_104 : BitVec 32 := 1#32
  let v148 : BitVec 32 := Scalar.divsi v146 c1_i32_104
  let v149 : BitVec 32 := Scalar.muli v148 c1_i32_104
  let v150 : BitVec 32 := Scalar.addi c0_i32_102 v149
  let v147 : BitVec 32 := Scalar.addi c0_i32_102 v146
  let c1_i32_106 : BitVec 32 := 1#32
  ⟨v150, v147, c1_i32_106⟩

def k0_chk9 (v145 : BitVec 32) : Prop :=
  ((k0_t12_loop v145).OK) ∧
  ((k0_t13_loop v145).OK)
theorem k0_t12_ok : ∀ (v145 : BitVec 32) (k0_hw9 : k0_chk9 v145), (k0_t12_loop v145).OK := fun v145 k0_hw9 => k0_hw9.1
theorem k0_t13_ok : ∀ (v145 : BitVec 32) (k0_hw9 : k0_chk9 v145), (k0_t13_loop v145).OK := fun v145 k0_hw9 => k0_hw9.2

def k0_off19 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c192_i32 : BitVec 32 := 192#32
  let v153 : BitVec 32 := Scalar.addi v8 c192_i32
  let v154 : Index := Scalar.indexCast v153
  let c0_107 : Index := 0#32
  ![v154.toNat, 0]
def k0_dev6 (d0 : Dev nD) : Nat :=
  let c0_i32_115 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_114 : BitVec 32 := 2#32
  let v172 : BitVec 32 := Scalar.muli v6 c2_i32_114
  let v173 : BitVec 32 := Scalar.addi c0_i32_115 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v174 : BitVec 32 := Scalar.muli v5 c1_i32_116
  let v175 : BitVec 32 := Scalar.addi v173 v174
  v175.toNat
@[reducible] def k0_t14_loop : Scf.Loop 32 :=
  let c0_i32_122 : BitVec 32 := 0#32
  let c64_i32_123 : BitVec 32 := 64#32
  let v182 : BitVec 32 := Scalar.addi c0_i32_122 c64_i32_123
  let c1_i32_124 : BitVec 32 := 1#32
  ⟨c0_i32_122, v182, c1_i32_124⟩
def k0_off20 (d0 : Dev nD) (k0_t14 : Fin k0_t14_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c320_i32_761 : BitVec 32 := 320#32
  let c0_i32_122 : BitVec 32 := 0#32
  let c1_i32_124 : BitVec 32 := 1#32
  let arg17 : BitVec 32 := Scf.iv c0_i32_122 c1_i32_124 k0_t14
  let v819 : BitVec 32 := Scalar.addi c320_i32_761 arg17
  let v820 : BitVec 32 := Scalar.addi v8 v819
  let v821 : Index := Scalar.indexCast v820
  ![v821.toNat]
def k0_off21 (k0_t14 : Fin k0_t14_loop.trips) : Fin 2 → Nat :=
  let c320_i32_761 : BitVec 32 := 320#32
  let c0_i32_122 : BitVec 32 := 0#32
  let c1_i32_124 : BitVec 32 := 1#32
  let arg17 : BitVec 32 := Scf.iv c0_i32_122 c1_i32_124 k0_t14
  let v819 : BitVec 32 := Scalar.addi c320_i32_761 arg17
  let c0_i32_766 : BitVec 32 := 0#32
  ![v819.toNat, 0]
def k0_off22 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond6 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk10 (d0 : Dev nD) (v822 : BitVec 32) : Prop :=
  (∀ (k0_h6 : k0_cond6 d0 v822 = 1#1), ∀ a, (k0_off22 d0 v822) a + S1x1024.size a ≤ S8192x1024.size a)
theorem k0_off22_inb : ∀ (d0 : Dev nD) (v822 : BitVec 32) (k0_hw10 : k0_chk10 d0 v822), ∀ (k0_h6 : k0_cond6 d0 v822 = 1#1), ∀ a, (k0_off22 d0 v822) a + S1x1024.size a ≤ S8192x1024.size a := fun d0 v822 k0_hw10 k0_h6 => k0_hw10 k0_h6

@[reducible] def k0_t15_loop (v185 : BitVec 32) : Scf.Loop 32 :=
  let c0_i32_127 : BitVec 32 := 0#32
  let v186 : BitVec 32 := Scalar.subi v185 c0_i32_127
  let c1_i32_129 : BitVec 32 := 1#32
  let v188 : BitVec 32 := Scalar.divsi v186 c1_i32_129
  let v189 : BitVec 32 := Scalar.muli v188 c1_i32_129
  let v190 : BitVec 32 := Scalar.addi c0_i32_127 v189
  let c1_i32_130 : BitVec 32 := 1#32
  ⟨c0_i32_127, v190, c1_i32_130⟩

@[reducible] def k0_t16_loop (v185 : BitVec 32) : Scf.Loop 32 :=
  let c0_i32_127 : BitVec 32 := 0#32
  let v186 : BitVec 32 := Scalar.subi v185 c0_i32_127
  let c1_i32_129 : BitVec 32 := 1#32
  let v188 : BitVec 32 := Scalar.divsi v186 c1_i32_129
  let v189 : BitVec 32 := Scalar.muli v188 c1_i32_129
  let v190 : BitVec 32 := Scalar.addi c0_i32_127 v189
  let v187 : BitVec 32 := Scalar.addi c0_i32_127 v186
  let c1_i32_131 : BitVec 32 := 1#32
  ⟨v190, v187, c1_i32_131⟩

def k0_chk11 (v185 : BitVec 32) : Prop :=
  ((k0_t15_loop v185).OK) ∧
  ((k0_t16_loop v185).OK)
theorem k0_t15_ok : ∀ (v185 : BitVec 32) (k0_hw11 : k0_chk11 v185), (k0_t15_loop v185).OK := fun v185 k0_hw11 => k0_hw11.1
theorem k0_t16_ok : ∀ (v185 : BitVec 32) (k0_hw11 : k0_chk11 v185), (k0_t16_loop v185).OK := fun v185 k0_hw11 => k0_hw11.2

def k0_off23 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c256_i32 : BitVec 32 := 256#32
  let v193 : BitVec 32 := Scalar.addi v8 c256_i32
  let v194 : Index := Scalar.indexCast v193
  let c0_132 : Index := 0#32
  ![v194.toNat, 0]
def k0_dev7 (d0 : Dev nD) : Nat :=
  let c0_i32_140 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_139 : BitVec 32 := 2#32
  let v212 : BitVec 32 := Scalar.muli v6 c2_i32_139
  let v213 : BitVec 32 := Scalar.addi c0_i32_140 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v214 : BitVec 32 := Scalar.muli v5 c1_i32_141
  let v215 : BitVec 32 := Scalar.addi v213 v214
  v215.toNat
@[reducible] def k0_t17_loop : Scf.Loop 32 :=
  let c0_i32_147 : BitVec 32 := 0#32
  let c64_i32_148 : BitVec 32 := 64#32
  let v222 : BitVec 32 := Scalar.addi c0_i32_147 c64_i32_148
  let c1_i32_149 : BitVec 32 := 1#32
  ⟨c0_i32_147, v222, c1_i32_149⟩
def k0_off24 (d0 : Dev nD) (k0_t17 : Fin k0_t17_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c384_i32_761 : BitVec 32 := 384#32
  let c0_i32_147 : BitVec 32 := 0#32
  let c1_i32_149 : BitVec 32 := 1#32
  let arg17 : BitVec 32 := Scf.iv c0_i32_147 c1_i32_149 k0_t17
  let v819 : BitVec 32 := Scalar.addi c384_i32_761 arg17
  let v820 : BitVec 32 := Scalar.addi v8 v819
  let v821 : Index := Scalar.indexCast v820
  ![v821.toNat]
def k0_off25 (k0_t17 : Fin k0_t17_loop.trips) : Fin 2 → Nat :=
  let c384_i32_761 : BitVec 32 := 384#32
  let c0_i32_147 : BitVec 32 := 0#32
  let c1_i32_149 : BitVec 32 := 1#32
  let arg17 : BitVec 32 := Scf.iv c0_i32_147 c1_i32_149 k0_t17
  let v819 : BitVec 32 := Scalar.addi c384_i32_761 arg17
  let c0_i32_766 : BitVec 32 := 0#32
  ![v819.toNat, 0]
def k0_off26 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond7 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk12 (d0 : Dev nD) (v822 : BitVec 32) : Prop :=
  (∀ (k0_h7 : k0_cond7 d0 v822 = 1#1), ∀ a, (k0_off26 d0 v822) a + S1x1024.size a ≤ S8192x1024.size a)
theorem k0_off26_inb : ∀ (d0 : Dev nD) (v822 : BitVec 32) (k0_hw12 : k0_chk12 d0 v822), ∀ (k0_h7 : k0_cond7 d0 v822 = 1#1), ∀ a, (k0_off26 d0 v822) a + S1x1024.size a ≤ S8192x1024.size a := fun d0 v822 k0_hw12 k0_h7 => k0_hw12 k0_h7

@[reducible] def k0_t18_loop (v225 : BitVec 32) : Scf.Loop 32 :=
  let c0_i32_152 : BitVec 32 := 0#32
  let v226 : BitVec 32 := Scalar.subi v225 c0_i32_152
  let c1_i32_154 : BitVec 32 := 1#32
  let v228 : BitVec 32 := Scalar.divsi v226 c1_i32_154
  let v229 : BitVec 32 := Scalar.muli v228 c1_i32_154
  let v230 : BitVec 32 := Scalar.addi c0_i32_152 v229
  let c1_i32_155 : BitVec 32 := 1#32
  ⟨c0_i32_152, v230, c1_i32_155⟩

@[reducible] def k0_t19_loop (v225 : BitVec 32) : Scf.Loop 32 :=
  let c0_i32_152 : BitVec 32 := 0#32
  let v226 : BitVec 32 := Scalar.subi v225 c0_i32_152
  let c1_i32_154 : BitVec 32 := 1#32
  let v228 : BitVec 32 := Scalar.divsi v226 c1_i32_154
  let v229 : BitVec 32 := Scalar.muli v228 c1_i32_154
  let v230 : BitVec 32 := Scalar.addi c0_i32_152 v229
  let v227 : BitVec 32 := Scalar.addi c0_i32_152 v226
  let c1_i32_156 : BitVec 32 := 1#32
  ⟨v230, v227, c1_i32_156⟩

def k0_chk13 (v225 : BitVec 32) : Prop :=
  ((k0_t18_loop v225).OK) ∧
  ((k0_t19_loop v225).OK)
theorem k0_t18_ok : ∀ (v225 : BitVec 32) (k0_hw13 : k0_chk13 v225), (k0_t18_loop v225).OK := fun v225 k0_hw13 => k0_hw13.1
theorem k0_t19_ok : ∀ (v225 : BitVec 32) (k0_hw13 : k0_chk13 v225), (k0_t19_loop v225).OK := fun v225 k0_hw13 => k0_hw13.2

def k0_off27 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c320_i32 : BitVec 32 := 320#32
  let v233 : BitVec 32 := Scalar.addi v8 c320_i32
  let v234 : Index := Scalar.indexCast v233
  let c0_157 : Index := 0#32
  ![v234.toNat, 0]
def k0_dev8 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v252 : BitVec 32 := Scalar.muli v6 c2_i32_164
  let v253 : BitVec 32 := Scalar.addi c0_i32_165 v252
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v254 : BitVec 32 := Scalar.muli v5 c1_i32_166
  let v255 : BitVec 32 := Scalar.addi v253 v254
  v255.toNat
@[reducible] def k0_t20_loop : Scf.Loop 32 :=
  let c0_i32_172 : BitVec 32 := 0#32
  let c64_i32_173 : BitVec 32 := 64#32
  let v262 : BitVec 32 := Scalar.addi c0_i32_172 c64_i32_173
  let c1_i32_174 : BitVec 32 := 1#32
  ⟨c0_i32_172, v262, c1_i32_174⟩
def k0_off28 (d0 : Dev nD) (k0_t20 : Fin k0_t20_loop.trips) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c448_i32_761 : BitVec 32 := 448#32
  let c0_i32_172 : BitVec 32 := 0#32
  let c1_i32_174 : BitVec 32 := 1#32
  let arg17 : BitVec 32 := Scf.iv c0_i32_172 c1_i32_174 k0_t20
  let v819 : BitVec 32 := Scalar.addi c448_i32_761 arg17
  let v820 : BitVec 32 := Scalar.addi v8 v819
  let v821 : Index := Scalar.indexCast v820
  ![v821.toNat]
def k0_off29 (k0_t20 : Fin k0_t20_loop.trips) : Fin 2 → Nat :=
  let c448_i32_761 : BitVec 32 := 448#32
  let c0_i32_172 : BitVec 32 := 0#32
  let c1_i32_174 : BitVec 32 := 1#32
  let arg17 : BitVec 32 := Scf.iv c0_i32_172 c1_i32_174 k0_t20
  let v819 : BitVec 32 := Scalar.addi c448_i32_761 arg17
  let c0_i32_766 : BitVec 32 := 0#32
  ![v819.toNat, 0]
def k0_off30 (d0 : Dev nD) (v822 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_767 : BitVec 32 := 0#32
  ![v823.toNat, 0]
def k0_cond8 (d0 : Dev nD) (v822 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v9 : BitVec 32 := Scalar.muli v2 c8192_i32
  let v823 : BitVec 32 := Scalar.subi v822 v9
  let c0_i32_762 : BitVec 32 := 0#32
  let v824 : BitVec 1 := Scalar.cmpi .sge v823 c0_i32_762
  let c8192_i32_763 : BitVec 32 := 8192#32
  let v825 : BitVec 1 := Scalar.cmpi .slt v823 c8192_i32_763
  let v826 : BitVec 1 := Scalar.andi v824 v825
  let v827 : BitVec 32 := Scalar.extui v826
  let c0_i32_764 : BitVec 32 := 0#32
  let v828 : BitVec 1 := Scalar.cmpi .ne v827 c0_i32_764
  v828

def k0_chk14 (d0 : Dev nD) (v822 : BitVec 32) : Prop :=
  (∀ (k0_h8 : k0_cond8 d0 v822 = 1#1), ∀ a, (k0_off30 d0 v822) a + S1x1024.size a ≤ S8192x1024.size a)
theorem k0_off30_inb : ∀ (d0 : Dev nD) (v822 : BitVec 32) (k0_hw14 : k0_chk14 d0 v822), ∀ (k0_h8 : k0_cond8 d0 v822 = 1#1), ∀ a, (k0_off30 d0 v822) a + S1x1024.size a ≤ S8192x1024.size a := fun d0 v822 k0_hw14 k0_h8 => k0_hw14 k0_h8

@[reducible] def k0_t21_loop (v265 : BitVec 32) : Scf.Loop 32 :=
  let c0_i32_177 : BitVec 32 := 0#32
  let v266 : BitVec 32 := Scalar.subi v265 c0_i32_177
  let c1_i32_179 : BitVec 32 := 1#32
  let v268 : BitVec 32 := Scalar.divsi v266 c1_i32_179
  let v269 : BitVec 32 := Scalar.muli v268 c1_i32_179
  let v270 : BitVec 32 := Scalar.addi c0_i32_177 v269
  let c1_i32_180 : BitVec 32 := 1#32
  ⟨c0_i32_177, v270, c1_i32_180⟩

@[reducible] def k0_t22_loop (v265 : BitVec 32) : Scf.Loop 32 :=
  let c0_i32_177 : BitVec 32 := 0#32
  let v266 : BitVec 32 := Scalar.subi v265 c0_i32_177
  let c1_i32_179 : BitVec 32 := 1#32
  let v268 : BitVec 32 := Scalar.divsi v266 c1_i32_179
  let v269 : BitVec 32 := Scalar.muli v268 c1_i32_179
  let v270 : BitVec 32 := Scalar.addi c0_i32_177 v269
  let v267 : BitVec 32 := Scalar.addi c0_i32_177 v266
  let c1_i32_181 : BitVec 32 := 1#32
  ⟨v270, v267, c1_i32_181⟩

def k0_chk15 (v265 : BitVec 32) : Prop :=
  ((k0_t21_loop v265).OK) ∧
  ((k0_t22_loop v265).OK)
theorem k0_t21_ok : ∀ (v265 : BitVec 32) (k0_hw15 : k0_chk15 v265), (k0_t21_loop v265).OK := fun v265 k0_hw15 => k0_hw15.1
theorem k0_t22_ok : ∀ (v265 : BitVec 32) (k0_hw15 : k0_chk15 v265), (k0_t22_loop v265).OK := fun v265 k0_hw15 => k0_hw15.2

def k0_off31 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c384_i32 : BitVec 32 := 384#32
  let v273 : BitVec 32 := Scalar.addi v8 c384_i32
  let v274 : Index := Scalar.indexCast v273
  let c0_182 : Index := 0#32
  ![v274.toNat, 0]
def k0_dev9 (d0 : Dev nD) : Nat :=
  let c0_i32_190 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_189 : BitVec 32 := 2#32
  let v292 : BitVec 32 := Scalar.muli v6 c2_i32_189
  let v293 : BitVec 32 := Scalar.addi c0_i32_190 v292
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_191 : BitVec 32 := 1#32
  let v294 : BitVec 32 := Scalar.muli v5 c1_i32_191
  let v295 : BitVec 32 := Scalar.addi v293 v294
  v295.toNat
@[reducible] def k0_t23_loop (v302 : BitVec 32) : Scf.Loop 32 :=
  let c0_i32_197 : BitVec 32 := 0#32
  let v303 : BitVec 32 := Scalar.subi v302 c0_i32_197
  let c1_i32_199 : BitVec 32 := 1#32
  let v305 : BitVec 32 := Scalar.divsi v303 c1_i32_199
  let v306 : BitVec 32 := Scalar.muli v305 c1_i32_199
  let v307 : BitVec 32 := Scalar.addi c0_i32_197 v306
  let c1_i32_200 : BitVec 32 := 1#32
  ⟨c0_i32_197, v307, c1_i32_200⟩

@[reducible] def k0_t24_loop (v302 : BitVec 32) : Scf.Loop 32 :=
  let c0_i32_197 : BitVec 32 := 0#32
  let v303 : BitVec 32 := Scalar.subi v302 c0_i32_197
  let c1_i32_199 : BitVec 32 := 1#32
  let v305 : BitVec 32 := Scalar.divsi v303 c1_i32_199
  let v306 : BitVec 32 := Scalar.muli v305 c1_i32_199
  let v307 : BitVec 32 := Scalar.addi c0_i32_197 v306
  let v304 : BitVec 32 := Scalar.addi c0_i32_197 v303
  let c1_i32_201 : BitVec 32 := 1#32
  ⟨v307, v304, c1_i32_201⟩

def k0_chk16 (v302 : BitVec 32) : Prop :=
  ((k0_t23_loop v302).OK) ∧
  ((k0_t24_loop v302).OK)
theorem k0_t23_ok : ∀ (v302 : BitVec 32) (k0_hw16 : k0_chk16 v302), (k0_t23_loop v302).OK := fun v302 k0_hw16 => k0_hw16.1
theorem k0_t24_ok : ∀ (v302 : BitVec 32) (k0_hw16 : k0_chk16 v302), (k0_t24_loop v302).OK := fun v302 k0_hw16 => k0_hw16.2

def k0_off32 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c448_i32 : BitVec 32 := 448#32
  let v310 : BitVec 32 := Scalar.addi v8 c448_i32
  let v311 : Index := Scalar.indexCast v310
  let c0_202 : Index := 0#32
  ![v311.toNat, 0]
def k0_dev10 (d0 : Dev nD) : Nat :=
  let c0_i32_210 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_209 : BitVec 32 := 2#32
  let v329 : BitVec 32 := Scalar.muli v6 c2_i32_209
  let v330 : BitVec 32 := Scalar.addi c0_i32_210 v329
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_211 : BitVec 32 := 1#32
  let v331 : BitVec 32 := Scalar.muli v5 c1_i32_211
  let v332 : BitVec 32 := Scalar.addi v330 v331
  v332.toNat
def k0_dev11 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v353 : BitVec 32 := Scalar.muli v2 c2_i32_233
  let v354 : BitVec 32 := Scalar.addi c0_i32_234 v353
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_235 : BitVec 32 := 1#32
  let v355 : BitVec 32 := Scalar.muli v7 c1_i32_235
  let v356 : BitVec 32 := Scalar.addi v354 v355
  v356.toNat
def k0_off33 (d0 : Dev nD) (c0_i32_242 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v367 : BitVec 32 := Scalar.addi v8 c0_i32_242
  let c0_i32_243 : BitVec 32 := 0#32
  ![v367.toNat, 0]
def k0_dev12 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v384 : BitVec 32 := Scalar.muli v2 c2_i32_263
  let v385 : BitVec 32 := Scalar.addi c0_i32_264 v384
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_265 : BitVec 32 := 1#32
  let v386 : BitVec 32 := Scalar.muli v7 c1_i32_265
  let v387 : BitVec 32 := Scalar.addi v385 v386
  v387.toNat
def k0_dev13 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v415 : BitVec 32 := Scalar.muli v2 c2_i32_293
  let v416 : BitVec 32 := Scalar.addi c0_i32_294 v415
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_295 : BitVec 32 := 1#32
  let v417 : BitVec 32 := Scalar.muli v7 c1_i32_295
  let v418 : BitVec 32 := Scalar.addi v416 v417
  v418.toNat
def k0_dev14 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v446 : BitVec 32 := Scalar.muli v2 c2_i32_323
  let v447 : BitVec 32 := Scalar.addi c0_i32_324 v446
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_325 : BitVec 32 := 1#32
  let v448 : BitVec 32 := Scalar.muli v7 c1_i32_325
  let v449 : BitVec 32 := Scalar.addi v447 v448
  v449.toNat
def k0_dev15 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v477 : BitVec 32 := Scalar.muli v2 c2_i32_353
  let v478 : BitVec 32 := Scalar.addi c0_i32_354 v477
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_355 : BitVec 32 := 1#32
  let v479 : BitVec 32 := Scalar.muli v7 c1_i32_355
  let v480 : BitVec 32 := Scalar.addi v478 v479
  v480.toNat
def k0_dev16 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v508 : BitVec 32 := Scalar.muli v2 c2_i32_383
  let v509 : BitVec 32 := Scalar.addi c0_i32_384 v508
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_385 : BitVec 32 := 1#32
  let v510 : BitVec 32 := Scalar.muli v7 c1_i32_385
  let v511 : BitVec 32 := Scalar.addi v509 v510
  v511.toNat
def k0_dev17 (d0 : Dev nD) : Nat :=
  let c0_i32_414 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_413 : BitVec 32 := 2#32
  let v539 : BitVec 32 := Scalar.muli v2 c2_i32_413
  let v540 : BitVec 32 := Scalar.addi c0_i32_414 v539
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_415 : BitVec 32 := 1#32
  let v541 : BitVec 32 := Scalar.muli v7 c1_i32_415
  let v542 : BitVec 32 := Scalar.addi v540 v541
  v542.toNat
def k0_dev18 (d0 : Dev nD) : Nat :=
  let c0_i32_444 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_443 : BitVec 32 := 2#32
  let v570 : BitVec 32 := Scalar.muli v2 c2_i32_443
  let v571 : BitVec 32 := Scalar.addi c0_i32_444 v570
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_445 : BitVec 32 := 1#32
  let v572 : BitVec 32 := Scalar.muli v7 c1_i32_445
  let v573 : BitVec 32 := Scalar.addi v571 v572
  v573.toNat
def k0_off34 (d0 : Dev nD) (c0_i32_469 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_468 : BitVec 32 := 512#32
  let v600 : BitVec 32 := Scalar.muli v7 c512_i32_468
  let v601 : BitVec 32 := Scalar.addi v600 c0_i32_469
  let c0_i32_470 : BitVec 32 := 0#32
  ![v601.toNat, 0]
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Body.lean ====
/- The kernel's body written once per phase: for a symbolic device `d` and a symbolic chunk `k` of 64 rows, the phases
   of v03 (issue the row gathers, drain them, send along x, reduce and send along y, take what came along y, and the
   final waits), each over the program that follows it; and the printed body is their sequence. -/
module

public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.SL.Sem

variable {F : FTy → Type} [FloatOps F]

/-- Programs of a TensorCore's body. -/
abbrev PR (F : FTy → Type) := Prog (TpuEff nD τ sig (Elt F) Λ₀ .tc)

/-! ## The buffers and semaphores the body names -/

/-- the ids, as scalars -/
abbrev mIds : Memref sig .tc .smem S1024 .i32 := Memref.whole cc0_stg0_0
/-- the ids, as a column -/
abbrev mIdc : Memref sig .tc .vmem S1024x1 .i32 := Memref.whole cc0_stg1_0
/-- this device's part of the table -/
abbrev mTab : Memref sig .tc .hbm S8192x1024 .f32 := Memref.whole main_arg1
/-- the result -/
abbrev mOut : Memref sig .tc .hbm S1024x1024 .f32 := Memref.whole main_v2
/-- the gathered rows -/
abbrev mStg : Memref sig .tc .vmem S512x1024 .f32 := Memref.whole cc0_scratch0
/-- what is sent along x -/
abbrev mXs : Memref sig .tc .vmem S512x1024 .bf16 := Memref.whole cc0_scratch1
/-- what is received along x -/
abbrev mXr : Memref sig .tc .vmem S512x1024 .bf16 := Memref.whole cc0_scratch2
/-- what is sent along y -/
abbrev mYs : Memref sig .tc .vmem S512x1024 .bf16 := Memref.whole cc0_scratch3
/-- what is received along y -/
abbrev mYr : Memref sig .tc .vmem S512x1024 .bf16 := Memref.whole cc0_scratch4
/-- the rows on their way to the result -/
abbrev mObf : Memref sig .tc .vmem S1024x1024 .f32 := Memref.whole cc0_scratch5
/-- the counts of gathers issued per chunk -/
abbrev mCnt : Memref sig .tc .smem S8 .i32 := Memref.whole cc0_scratch6

theorem hXs : mXs.IsWhole := Memref.isWhole_whole _
theorem hXr : mXr.IsWhole := Memref.isWhole_whole _
theorem hYs : mYs.IsWhole := Memref.isWhole_whole _
theorem hYr : mYr.IsWhole := Memref.isWhole_whole _

theorem k8_inb (k : Fin 8) : ∀ a, (![k.val] : Fin 1 → ℕ) a + S1.size a ≤ S8.size a := by
  revert k; decide +kernel

/-- Semaphore `k` of an array of eight. -/
def semAt (a : DmaSems sig S8) (k : Fin 8) : DmaSem sig :=
  ((a.slice (Rect.unit (s := S8) ![k.val] S1.size (k8_inb k))).squeeze S_ squeezes_S1_S_).sem
/-- the barrier's semaphore -/
def barS : Sem sig := (SemArray.scalar (sig.barrier 0 rfl) : Sems sig S_).sem
/-- the gathers' semaphore of chunk `k` -/
abbrev gS (k : Fin 8) : DmaSem sig := semAt cc0_scratch7 k
/-- the semaphore of the copies to the result -/
def oS : DmaSem sig := (cc0_scratch8 : DmaSems sig S_).sem
/-- the sends along x -/
abbrev xsS (k : Fin 8) : DmaSem sig := semAt cc0_scratch9 k
/-- the receives along x -/
abbrev xrS (k : Fin 8) : DmaSem sig := semAt cc0_scratch10 k
/-- the sends along y -/
abbrev ysS (k : Fin 8) : DmaSem sig := semAt cc0_scratch11 k
/-- the receives along y -/
abbrev yrS (k : Fin 8) : DmaSem sig := semAt cc0_scratch12 k

/-- The neighbour along x. -/
def xp (d : Dev nD) : Dev nD := ⟨k0_dev1 d, k0_dev1_lt d⟩
/-- The neighbour along y. -/
def yp (d : Dev nD) : Dev nD := ⟨k0_dev2 d, k0_dev2_lt d⟩

/-! ## The rectangles -/

/-- The first id of the device's half, as a word. -/
def baseW (d : Dev nD) : BitVec 32 := Scalar.muli (Scalar.remsi (Scalar.divsi (Dev.word d) 1#32) 2#32) 512#32
/-- The first row of the device's part of the table, as a word. -/
def voffW (d : Dev nD) : BitVec 32 := Scalar.muli (Scalar.remsi (Scalar.divsi (Dev.word d) 2#32) 2#32) 8192#32

/-- Where the id of trip `t` of chunk `k` lies. -/
def idOff (d : Dev nD) (k : Fin 8) (t : Fin k0_t1_loop.trips) : Fin 1 → ℕ :=
  ![(Scalar.indexCast (Scalar.addi (baseW d) (Scalar.addi (BitVec.ofNat 32 (64 * k.val)) (Scf.iv 0#32 1#32 t)))).toNat]
/-- Where the row of trip `t` of chunk `k` is gathered to. -/
def stOff (k : Fin 8) (t : Fin k0_t1_loop.trips) : Fin 2 → ℕ :=
  ![(Scalar.addi (BitVec.ofNat 32 (64 * k.val)) (Scf.iv 0#32 1#32 t)).toNat, 0]
/-- Where the ids of chunk `k` lie in the column. -/
def idcOff (d : Dev nD) (k : Fin 8) : Fin 2 → ℕ :=
  ![(Scalar.indexCast (Scalar.addi (baseW d) (BitVec.ofNat 32 (64 * k.val)))).toNat, 0]

theorem trips64 : k0_t1_loop.trips = 64 := by decide +kernel
theorem idOff_eq : ∀ (d : Dev nD) (k : Fin 8) (t : Fin k0_t1_loop.trips), idOff d k t = ![512 * (d.val % 2) + 64 * k.val + t.val] := by
  decide +kernel
theorem idOff_inb (d : Dev nD) (k : Fin 8) (t : Fin k0_t1_loop.trips) : ∀ a, idOff d k t a + S1.size a ≤ S1024.size a := by
  have ht : t.val < 64 := trips64 ▸ t.isLt
  rw [idOff_eq]; intro a; fin_cases a; simp [S1, S1024]; omega
theorem stOff_eq : ∀ (k : Fin 8) (t : Fin k0_t1_loop.trips), stOff k t = ![64 * k.val + t.val, 0] := by
  decide +kernel
theorem stOff_inb (k : Fin 8) (t : Fin k0_t1_loop.trips) : ∀ a, stOff k t a + S1x1024.size a ≤ S512x1024.size a := by
  have ht : t.val < 64 := trips64 ▸ t.isLt
  rw [stOff_eq]; intro a; fin_cases a <;> simp [S1x1024, S512x1024]; omega
theorem idcOff_eq : ∀ (d : Dev nD) (k : Fin 8), idcOff d k = ![512 * (d.val % 2) + 64 * k.val, 0] := by
  decide +kernel
theorem idcOff_inb : ∀ (d : Dev nD) (k : Fin 8), ∀ a, idcOff d k a + S64x1.size a ≤ S1024x1.size a := by
  decide +kernel
theorem ch_inb : ∀ (k : Fin 8) a, (![64 * k.val, 0] : Fin 2 → ℕ) a + S64x1024.size a ≤ S512x1024.size a := by
  decide +kernel
theorem oa_inb : ∀ (k : Fin 8) a, (![64 * k.val, 0] : Fin 2 → ℕ) a + S64x1024.size a ≤ S1024x1024.size a := by
  decide +kernel
theorem ob_inb : ∀ (k : Fin 8) a, (![512 + 64 * k.val, 0] : Fin 2 → ℕ) a + S64x1024.size a ≤ S1024x1024.size a := by
  decide +kernel

/-- Chunk `k` of a buffer of 512 rows. -/
abbrev chR (k : Fin 8) : Rect S512x1024 := Rect.unit (s := S512x1024) ![64 * k.val, 0] S64x1024.size (ch_inb k)
/-- Chunk `k` of the first 512 rows of the buffer on its way to the result. -/
abbrev oaR (k : Fin 8) : Rect S1024x1024 := Rect.unit (s := S1024x1024) ![64 * k.val, 0] S64x1024.size (oa_inb k)
/-- Chunk `k` of its last 512 rows. -/
abbrev obR (k : Fin 8) : Rect S1024x1024 := Rect.unit (s := S1024x1024) ![512 + 64 * k.val, 0] S64x1024.size (ob_inb k)
/-- The rows of the result chunk `k` of the device's own half goes to. -/
abbrev raR (d : Dev nD) (k : Fin 8) : Rect S1024x1024 :=
  Rect.unit (s := S1024x1024) (k0_off33 d (BitVec.ofNat 32 (64 * k.val))) S64x1024.size (k0_off33_inb d k)
/-- The rows of the result chunk `k` of the other half goes to. -/
abbrev rbR (d : Dev nD) (k : Fin 8) : Rect S1024x1024 :=
  Rect.unit (s := S1024x1024) (k0_off34 d (BitVec.ofNat 32 (64 * k.val))) S64x1024.size (k0_off34_inb d k)
/-- The counter of chunk `k`. -/
abbrev cntR (k : Fin 8) : Rect S8 := Rect.unit (s := S8) ![k.val] S1.size (k8_inb k)
/-- The ids of chunk `k` in the column. -/
abbrev idcR (d : Dev nD) (k : Fin 8) : Rect S1024x1 := Rect.unit (s := S1024x1) (idcOff d k) S64x1.size (idcOff_inb d k)

theorem ch_packed : ∀ k : Fin 8, (chR k).PackedRows (EltTy.packing .bf16)
  | ⟨0, _⟩ => packedbf16_S512x1024_S64x1024_0_0
  | ⟨1, _⟩ => packedbf16_S512x1024_S64x1024_64_0
  | ⟨2, _⟩ => packedbf16_S512x1024_S64x1024_128_0
  | ⟨3, _⟩ => packedbf16_S512x1024_S64x1024_192_0
  | ⟨4, _⟩ => packedbf16_S512x1024_S64x1024_256_0
  | ⟨5, _⟩ => packedbf16_S512x1024_S64x1024_320_0
  | ⟨6, _⟩ => packedbf16_S512x1024_S64x1024_384_0
  | ⟨7, _⟩ => packedbf16_S512x1024_S64x1024_448_0
theorem ch_words : ∀ k : Fin 8, (chR k).WholeWords (EltTy.packing .bf16)
  | ⟨0, _⟩ => wordsbf16_S512x1024_S64x1024_0_0
  | ⟨1, _⟩ => wordsbf16_S512x1024_S64x1024_64_0
  | ⟨2, _⟩ => wordsbf16_S512x1024_S64x1024_128_0
  | ⟨3, _⟩ => wordsbf16_S512x1024_S64x1024_192_0
  | ⟨4, _⟩ => wordsbf16_S512x1024_S64x1024_256_0
  | ⟨5, _⟩ => wordsbf16_S512x1024_S64x1024_320_0
  | ⟨6, _⟩ => wordsbf16_S512x1024_S64x1024_384_0
  | ⟨7, _⟩ => wordsbf16_S512x1024_S64x1024_448_0

abbrev xsC (k : Fin 8) : Memref sig .tc .vmem S64x1024 .bf16 := mXs.slice (chR k) (fun _ => rfl)
abbrev xrC (k : Fin 8) : Memref sig .tc .vmem S64x1024 .bf16 := mXr.slice (chR k) (fun _ => rfl)
abbrev ysC (k : Fin 8) : Memref sig .tc .vmem S64x1024 .bf16 := mYs.slice (chR k) (fun _ => rfl)
abbrev yrC (k : Fin 8) : Memref sig .tc .vmem S64x1024 .bf16 := mYr.slice (chR k) (fun _ => rfl)
abbrev oaC (k : Fin 8) : Memref sig .tc .vmem S64x1024 .f32 := mObf.slice (oaR k) (fun _ => rfl)
abbrev obC (k : Fin 8) : Memref sig .tc .vmem S64x1024 .f32 := mObf.slice (obR k) (fun _ => rfl)
abbrev raC (d : Dev nD) (k : Fin 8) : Memref sig .tc .hbm S64x1024 .f32 := mOut.slice (raR d k) (fun _ => rfl)
abbrev rbC (d : Dev nD) (k : Fin 8) : Memref sig .tc .hbm S64x1024 .f32 := mOut.slice (rbR d k) (fun _ => rfl)
/-- The row of the stage trip `t` of chunk `k` gathers to. -/
abbrev stRow (k : Fin 8) (t : Fin k0_t1_loop.trips) : Memref sig .tc .vmem S1x1024 .f32 :=
  mStg.slice (Rect.unit (s := S512x1024) (stOff k t) S1x1024.size (stOff_inb k t)) (fun _ => rfl)
/-- The row of the table the id `v` names. -/
abbrev tabRow (d : Dev nD) (v : BitVec 32) (hw : k0_chk1 d v) (h : k0_cond1 d v = 1#1) : Memref sig .tc .hbm S1x1024 .f32 :=
  mTab.slice (Rect.unit (s := S8192x1024) (k0_off3 d v) S1x1024.size (k0_off3_inb d v hw h)) (fun _ => rfl)

/-! ## The phases -/

/-- Whether the id `v` names a row of the device's part of the table, as the kernel computes it. -/
def inW (d : Dev nD) (v : BitVec 32) : BitVec 1 :=
  Scalar.andi (Scalar.cmpi .sge (Scalar.subi v (voffW d)) 0#32) (Scalar.cmpi .slt (Scalar.subi v (voffW d)) 8192#32)

/-- One trip of the issue of chunk `k`: the gather of one row, when the id names a row of this device's. -/
def issueTrip (d : Dev nD) (k : Fin 8) : Fin k0_t1_loop.trips → BitVec 32 → PR F (BitVec 32) := fun t acc => do
  let v : Elt F .i32 ← smemLoad mIds (Rect.unit (s := S1024) (idOff d k t) S1.size (idOff_inb d k t)) numel1_S1 rfl
  have hw : k0_chk1 d v := (← Prog.lift (TpuEff.assume (k0_chk1 d v) (k0_chk1.dec d v))).down
  if h : k0_cond1 d v = 1#1 then do
    Prog.lift (.enqueueDma (tabRow d v hw h) (.here (stRow k t)) (.dma (gS k)) (View.wordExact_bits rfl) (View.wordExact_bits rfl) ⟨Or.inl rfl, trivial⟩)
    pure ⟨⟩
  else do
    pure ⟨⟩
  pure (Scalar.addi acc (Scalar.extui (inW d v)))

/-- The issue of chunk `k`. -/
def issue (d : Dev nD) (k : Fin 8) (K : PR F PUnit) : PR F PUnit := do
  let n : BitVec 32 ← Scf.Loop.for k0_t1_loop k0_t1_ok 0#32 (issueTrip d k)
  let _ : Elt F .i32 ← smemLoad mCnt (cntR k) numel1_S1 rfl
  Prog.lift (.store mCnt (cntR k) (fun _ => n) Finset.univ (View.stores_smem_one rfl numel1_S1) (.inl rfl))
  K

/-- One wait of the drain of chunk `k`. -/
def drainTrip (k : Fin 8) {n : ℕ} : Fin n → BitVec 32 → PR F (BitVec 32) := fun _ _ => do
  Prog.lift (.waitDma2 (gS k) (mTab.slice (Rect.unit (s := S8192x1024) ![0, 0] S1x1024.size inb_S8192x1024_S1x1024_0_0) (fun _ => rfl) : Memref sig .tc .hbm S1x1024 .f32)
    (mStg.slice (Rect.unit (s := S512x1024) ![0, 0] S1x1024.size inb_S512x1024_S1x1024_0_0) (fun _ => rfl) : Memref sig .tc .vmem S1x1024 .f32)
    (View.wordExact_bits rfl) (View.wordExact_bits rfl))
  pure 0#32

/-- The drain of chunk `k`: as many waits as gathers were issued. -/
def drain (k : Fin 8) (K : PR F PUnit) : PR F PUnit := do
  let v : Elt F .i32 ← smemLoad mCnt (cntR k) numel1_S1 rfl
  have hw : k0_chk3 v := (← Prog.lift (TpuEff.assume (k0_chk3 v) (k0_chk3.dec v))).down
  let r : BitVec 32 ← Scf.Loop.for (k0_t3_loop v) (k0_t3_ok v hw) 0#32 (drainTrip k)
  let _ : BitVec 32 ← Scf.Loop.for (k0_t4_loop v) (k0_t4_ok v hw) r (drainTrip k)
  K

/-- Chunk `k` masked, narrowed, and sent along x. -/
def sendX (d : Dev nD) (k : Fin 8) (K : PR F PUnit) : PR F PUnit := do
  let ids : Vec F S64x1 .i32 ← Prog.lift (.load mIdc (idcR d k).toLoadRect (View.loadsAt_vmem h_S64x1))
  let stg : Vec F S64x1024 .f32 ← Prog.lift (.load mStg (chR k).toLoadRect (View.loadsAt_vmem h_S64x1024))
  let _ : Vec F S64x1024 .bf16 ← Prog.lift (.load mXs (chR k).toLoadRect (View.loadsAt_vmem h_S64x1024))
  Prog.lift (.store mXs (chR k) (k0_pay1 (voffW d) ids stg) Finset.univ (View.stores_vmem h_S64x1024 (hXs.storeExact_slice rfl _ (ch_packed k)) (fun _ => rfl)) (.inl rfl))
  Prog.lift (.enqueueDma (xsC k) (.remote (Dev.tc (xp d)) (xrC k) (.dma (xsS k))) (.dma (xrS k)) (hXs.wordExact_slice rfl _ (ch_words k)) (hXr.wordExact_slice rfl _ (ch_words k)) ⟨⟨rfl, Or.inl rfl⟩, trivial⟩)
  K

/-- Chunk `k` received along x, added to the device's own, sent along y and copied to the result. -/
def recvX (d : Dev nD) (k : Fin 8) (K : PR F PUnit) : PR F PUnit := do
  Prog.lift (.waitDma2 (xrS k) (xsC k) (xrC k) (hXs.wordExact_slice rfl _ (ch_words k)) (hXr.wordExact_slice rfl _ (ch_words k)))
  let a : Vec F S64x1024 .bf16 ← Prog.lift (.load mXs (chR k).toLoadRect (View.loadsAt_vmem h_S64x1024))
  let b : Vec F S64x1024 .bf16 ← Prog.lift (.load mXr (chR k).toLoadRect (View.loadsAt_vmem h_S64x1024))
  let _ : Vec F S64x1024 .bf16 ← Prog.lift (.load mYs (chR k).toLoadRect (View.loadsAt_vmem h_S64x1024))
  Prog.lift (.store mYs (chR k) (k0_pay13 a b) Finset.univ (View.stores_vmem h_S64x1024 (hYs.storeExact_slice rfl _ (ch_packed k)) (fun _ => rfl)) (.inl rfl))
  Prog.lift (.enqueueDma (ysC k) (.remote (Dev.tc (yp d)) (yrC k) (.dma (ysS k))) (.dma (yrS k)) (hYs.wordExact_slice rfl _ (ch_words k)) (hYr.wordExact_slice rfl _ (ch_words k)) ⟨⟨rfl, Or.inl rfl⟩, trivial⟩)
  let _ : Vec F S64x1024 .f32 ← Prog.lift (.load mObf (oaR k).toLoadRect (View.loadsAt_vmem h_S64x1024))
  Prog.lift (.store mObf (oaR k) (k0_pay14 (k0_pay12 a b)) Finset.univ (View.stores_vmem_bits_univ h_S64x1024 rfl) (.inl rfl))
  Prog.lift (.enqueueDma (oaC k) (.here (raC d k)) (.dma oS) (View.wordExact_bits rfl) (View.wordExact_bits rfl) ⟨Or.inl rfl, trivial⟩)
  K

/-- Chunk `k` received along y and copied to the result. -/
def recvY (d : Dev nD) (k : Fin 8) (K : PR F PUnit) : PR F PUnit := do
  Prog.lift (.waitDma2 (yrS k) (ysC k) (yrC k) (hYs.wordExact_slice rfl _ (ch_words k)) (hYr.wordExact_slice rfl _ (ch_words k)))
  let b : Vec F S64x1024 .bf16 ← Prog.lift (.load mYr (chR k).toLoadRect (View.loadsAt_vmem h_S64x1024))
  let _ : Vec F S64x1024 .f32 ← Prog.lift (.load mObf (obR k).toLoadRect (View.loadsAt_vmem h_S64x1024))
  Prog.lift (.store mObf (obR k) (k0_pay37 b) Finset.univ (View.stores_vmem_bits_univ h_S64x1024 rfl) (.inl rfl))
  Prog.lift (.enqueueDma (obC k) (.here (rbC d k)) (.dma oS) (View.wordExact_bits rfl) (View.wordExact_bits rfl) ⟨Or.inl rfl, trivial⟩)
  K

/-- The two sends of chunk `k` are over. -/
def finS (k : Fin 8) (K : PR F PUnit) : PR F PUnit := do
  Prog.lift (.waitDma2 (xsS k) (xrC k) (xsC k) (hXr.wordExact_slice rfl _ (ch_words k)) (hXs.wordExact_slice rfl _ (ch_words k)))
  Prog.lift (.waitDma2 (ysS k) (yrC k) (ysC k) (hYr.wordExact_slice rfl _ (ch_words k)) (hYs.wordExact_slice rfl _ (ch_words k)))
  K

/-- One copy to the result is over. -/
def finO (K : PR F PUnit) : PR F PUnit := do
  Prog.lift (.waitDma2 oS (mObf.slice (Rect.unit (s := S1024x1024) ![0, 0] S64x1024.size inb_S1024x1024_S64x1024_0_0) (fun _ => rfl) : Memref sig .tc .vmem S64x1024 .f32)
    (mOut.slice (Rect.unit (s := S1024x1024) ![0, 0] S64x1024.size inb_S1024x1024_S64x1024_0_0) (fun _ => rfl) : Memref sig .tc .hbm S64x1024 .f32)
    (View.wordExact_bits rfl) (View.wordExact_bits rfl))
  K

/-- The handshake of the barrier: one signal to each neighbour. -/
def signals (d : Dev nD) (K : PR F PUnit) : PR F PUnit := do
  semSignalWord (xp d) barS 1#32
  semSignalWord (yp d) barS 1#32
  K

/-- The wait for both neighbours' signals. -/
def barWait (K : PR F PUnit) : PR F PUnit := do
  semWaitWord barS 2#32
  K

/-- Send chunk `k` after its drain. -/
abbrev ds (d : Dev nD) (k : Fin 8) (K : PR F PUnit) : PR F PUnit := drain k (sendX d k K)

/-- What follows the last send along x. -/
def tail (d : Dev nD) : PR F PUnit :=
  recvX d 0 <| recvX d 1 <| recvX d 2 <| recvX d 3 <| recvX d 4 <| recvX d 5 <| recvX d 6 <| recvX d 7 <|
  recvY d 0 <| recvY d 1 <| recvY d 2 <| recvY d 3 <| recvY d 4 <| recvY d 5 <| recvY d 6 <| recvY d 7 <|
  finS 0 <| finS 1 <| finS 2 <| finS 3 <| finS 4 <| finS 5 <| finS 6 <| finS 7 <|
  finO <| finO <| finO <| finO <| finO <| finO <| finO <| finO <| finO <| finO <| finO <| finO <| finO <| finO <| finO <| finO <| pure ⟨⟩

/-- The body on device `d`. -/
def bodyAt (d : Dev nD) : PR F PUnit :=
  issue d 0 <| issue d 1 <| signals d <| barWait <| ds d 0 <| issue d 2 <| ds d 1 <| issue d 3 <| ds d 2 <| issue d 4 <|
  ds d 3 <| issue d 5 <| ds d 4 <| issue d 6 <| ds d 5 <| issue d 7 <| ds d 6 <| ds d 7 <| tail d

set_option maxRecDepth 65536 in
set_option maxHeartbeats 40000000 in
/-- Parts 11 to the end of the printed body: the end of the last send along x, then `tail`. -/
theorem tail_eq (d0 : Dev nD) (v2 v5 v6 v7 v8 v9 : BitVec 32) (v325 : FVec F S64x1024 .bf16) :
    (show PR F PUnit from do
    let ⟨v349, v353⟩ : Σ' (v349 : FVec F S64x1024 .bf16), BitVec 32 ← k0_part11 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v6 v325
    let v380 : FVec F S64x1024 .bf16 ← k0_part12 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v5 v6 v7 v8 v349 v353
    let v409 : Vec F S64x1024 .bf16 ← k0_part13 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v6 v7 v8 v380
    k0_part14 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v6 v7 v8 v409
    k0_part15 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v6 v7 v8
    let ⟨v494, c0_i32_369⟩ : Σ' (v494 : BitVec 32), BitVec 32 ← k0_part16 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v6 v7 v8
    k0_part17 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v7 v8 v494 c0_i32_369
    let c384_i32_422 : BitVec 32 ← k0_part18 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v6 v7
    let v580 : FVec F S64x1024 .f32 ← k0_part19 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v5 v6 v7 v8 c384_i32_422
    k0_part20 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v7 v8 v580
    let ⟨v634, c128_i32_502⟩ : Σ' (v634 : BitVec 32), BitVec 32 ← k0_part21 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v7
    k0_part22 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v7 v634 c128_i32_502
    k0_part23 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v7
    let v714 : Vec F S64x1024 .bf16 ← k0_part24 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v2 v7
    k0_part25 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12 d0 v7 v714
    k0_part26 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12
    k0_part27 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12
    k0_part28 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12
    k0_part29 mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12
    let v813 : Memref sig .tc .hbm S64x1024 .f32 := mOut.slice (Rect.unit (s := S1024x1024) ![0, 0] S64x1024.size inb_S1024x1024_S64x1024_0_0) (fun _ => rfl)
    let v814 : Memref sig .tc .vmem S64x1024 .f32 := mObf.slice (Rect.unit (s := S1024x1024) ![0, 0] S64x1024.size inb_S1024x1024_S64x1024_0_0) (fun _ => rfl)
    Prog.lift (.waitDma2 oS v814 v813 (View.wordExact_bits rfl) (View.wordExact_bits rfl))
    let v815 : Memref sig .tc .hbm S64x1024 .f32 := mOut.slice (Rect.unit (s := S1024x1024) ![0, 0] S64x1024.size inb_S1024x1024_S64x1024_0_0) (fun _ => rfl)
    let v816 : Memref sig .tc .vmem S64x1024 .f32 := mObf.slice (Rect.unit (s := S1024x1024) ![0, 0] S64x1024.size inb_S1024x1024_S64x1024_0_0) (fun _ => rfl)
    Prog.lift (.waitDma2 oS v816 v815 (View.wordExact_bits rfl) (View.wordExact_bits rfl))
    let v817 : Memref sig .tc .hbm S64x1024 .f32 := mOut.slice (Rect.unit (s := S1024x1024) ![0, 0] S64x1024.size inb_S1024x1024_S64x1024_0_0) (fun _ => rfl)
    let v818 : Memref sig .tc .vmem S64x1024 .f32 := mObf.slice (Rect.unit (s := S1024x1024) ![0, 0] S64x1024.size inb_S1024x1024_S64x1024_0_0) (fun _ => rfl)
    Prog.lift (.waitDma2 oS v818 v817 (View.wordExact_bits rfl) (View.wordExact_bits rfl))
    pure ⟨⟩
    ) = (show PR F PUnit from do
      let _ : Vec F S64x1024 .bf16 ← Prog.lift (.load mXs (chR 7).toLoadRect (View.loadsAt_vmem h_S64x1024))
      Prog.lift (.store mXs (chR 7) (k0_pay11 v325) Finset.univ (View.stores_vmem h_S64x1024 (hXs.storeExact_slice rfl _ (ch_packed 7)) (fun _ => rfl)) (.inl rfl))
      Prog.lift (.enqueueDma (xsC 7) (.remote (Dev.tc (xp d0)) (xrC 7) (.dma (xsS 7))) (.dma (xrS 7)) (hXs.wordExact_slice rfl _ (ch_words 7)) (hXr.wordExact_slice rfl _ (ch_words 7)) ⟨⟨rfl, Or.inl rfl⟩, trivial⟩)
      tail d0) := rfl

set_option maxRecDepth 65536 in
set_option maxHeartbeats 40000000 in
/-- The printed body is the phases in order. -/
theorem body_eq : cc0_body (F := F) mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12
    = (Prog.lift TpuEff.deviceId >>= fun d => bodyAt d : PR F PUnit) := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, bodyAt, issue, drain, sendX, signals, barWait, bind_assoc, pure_bind]
  rfl
end Cert.KernelIdeal.Run
-- ==== Proof.Sched.lean ====
/- What the body's run is about: the contents every buffer passes through, as functions of the ids and of each device's
   part of the table; and the protocol between the devices, as a schedule of rounds on the barrier, send and receive cells. -/
module

public import proofs.«01_k».proof.Proof.Body
public import proofs.«01_k».proof.Proof.Gen.KernelIdeal.Launch
public import proofs.«01_k».proof.Proof.Gen.KernelIdeal.Points
public import Idealize.ShloMosaic.Lib.Pipeline.RegionTalk
public import Idealize.ShloMosaic.Lib.Batch
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds, the protocol's, and the batches' counters -/

/-- The protocol's rounds: two duties a round at most. -/
abbrev UB : Type := URounds (GSem nD τ sig) Bool
abbrev UU : Type := UR sig nD τ × (UB × Counters)
/-- The assertions of the run. -/
abbrev AM (F : FTy → Type) [FloatOps F] := MT nD τ sig Unit (Elt F) ℕ UU ℕ

abbrev EP : Emb (UR sig nD τ) (AM F) := embL
abbrev ER : Emb UB (AM F) := (Emb.inl : Emb UB (UB × Counters)).trans embR
abbrev EC : UEmb Counters (AM F) := countersEmb (U := UU)

/-! ## The neighbours -/

theorem xp_xp : ∀ c : Dev nD, xp (xp c) = c := by decide +kernel
theorem yp_yp : ∀ c : Dev nD, yp (yp c) = c := by decide +kernel

/-! ## The contents -/

/-- The index of an array of one dimension. -/
abbrev ix1 {n : ℕ} (i : Fin n) : (⟨1, ![n]⟩ : Shape).Idx := fun a => match a with | 0 => i
/-- The index of an array of two dimensions. -/
abbrev ix2 {n m : ℕ} (i : Fin n) (j : Fin m) : (⟨2, ![n, m]⟩ : Shape).Idx :=
  fun a => match a with | 0 => i | 1 => j

/-- What the programs read: on each device the ids, the same ids as a column, and the device's part of the table. -/
structure In (F : FTy → Type) where
  ids : Dev nD → S1024.Idx → Elt F .i32
  idc : Dev nD → S1024x1.Idx → Elt F .i32
  tab : Dev nD → S8192x1024.Idx → Elt F .f32
  col : ∀ (c : Dev nD) (i : S1024x1.Idx), idc c i = ids c (ix1 (i 0))

variable (I : In F)

/-- The id trip `t` of chunk `k` reads. -/
def idAt (c : Dev nD) (k : Fin 8) (t : Fin k0_t1_loop.trips) : BitVec 32 :=
  I.ids c (ix1 ⟨512 * (c.val % 2) + 64 * k.val + t.val, by have := k.isLt; have ht : t.val < 64 := trips64 ▸ t.isLt; omega⟩)

/-- It is the element the scalar load names. -/
theorem idAt_eq (c : Dev nD) (k : Fin 8) (t : Fin k0_t1_loop.trips) :
    I.ids c ((Rect.unit (s := S1024) (idOff c k t) S1.size (idOff_inb c k t)).point numel1_S1) = idAt I c k t := by
  unfold idAt
  congr 1
  funext a
  fin_cases a
  refine Fin.ext ?_
  show idOff c k t 0 + 1 * 0 = 512 * (c.val % 2) + 64 * k.val + t.val
  rw [idOff_eq]
  rfl

/-- The row of the device's part the id names, when it names one. -/
def rowOf (c : Dev nD) (v : BitVec 32) : ℕ := (Scalar.subi v (voffW c)).toNat

/-- The rows chunk `k` gathers on device `c` (zeros where the id names no row of this device's). -/
def G (c : Dev nD) (k : Fin 8) : Vec F S64x1024 .f32 := fun i =>
  if h : rowOf c (idAt I c k ⟨(i 0).val, trips64.symm ▸ (i 0).isLt⟩) < 8192 then
    I.tab c (ix2 ⟨_, h⟩ (i 1))
  else Scalar.ofBits .f32 0#32

/-- The ids of chunk `k` as the kernel loads them from the column. -/
def idcAt (c : Dev nD) (k : Fin 8) : Vec F S64x1 .i32 := (mIdc.view.slice (idcR c k)).read (Elt F) (I.idc c)

/-- Chunk `k` of what device `c` sends along x. -/
def X (c : Dev nD) (k : Fin 8) : Vec F S64x1024 .bf16 := k0_pay1 (voffW c) (idcAt I c k) (G I c k)
/-- Chunk `k` of what device `c` sends along y: its own contribution and the neighbour's. -/
def Y (c : Dev nD) (k : Fin 8) : Vec F S64x1024 .bf16 := k0_pay13 (X I c k) (X I (xp c) k)
/-- Chunk `k` of the device's own half of the result. -/
def RA (c : Dev nD) (k : Fin 8) : Vec F S64x1024 .f32 := k0_pay14 (k0_pay12 (X I c k) (X I (xp c) k))
/-- Chunk `k` of the other half. -/
def RB (c : Dev nD) (k : Fin 8) : Vec F S64x1024 .f32 := k0_pay37 (Y I (yp c) k)

/-- The chunks, one after the other. -/
def cat {α : Type} (Z : Fin 8 → S64x1024.Idx → α) : S512x1024.Idx → α := fun i =>
  Z ⟨(i 0).val / 64, by have := (i 0).isLt; simp [S512x1024] at this; omega⟩ (ix2 ⟨(i 0).val % 64, Nat.mod_lt _ (by decide)⟩ (i 1))

/-- The result on device `c`: its own half from the reduction along x, the other half from what came along y. -/
def outF (c : Dev nD) : S1024x1024.Idx → Elt F .f32 := fun i =>
  (if (i 0).val / 512 = c.val % 2 then RA I c else RB I c)
    ⟨(i 0).val % 512 / 64, by have := Nat.mod_lt (i 0).val (show 0 < 512 by decide); omega⟩
    (ix2 ⟨(i 0).val % 64, Nat.mod_lt _ (by decide)⟩ (i 1))

/-! ## Geometry: where an index of a chunk lies -/

theorem ix2_eta {n m : ℕ} (x : (⟨2, ![n, m]⟩ : Shape).Idx) : ix2 (x 0) (x 1) = x := by
  funext a; fin_cases a <;> rfl

theorem cat_emb {α : Type} (Z : Fin 8 → S64x1024.Idx → α) (k : Fin 8) (x : S64x1024.Idx) : cat Z ((chR k).emb x) = Z k x := by
  have hx : (x 0).val < 64 := (x 0).isLt
  have h0 : (((chR k).emb x) 0).val = 64 * k.val + (x 0).val := by
    show 64 * k.val + 1 * (x 0).val = _; omega
  have h1 : ((chR k).emb x) 1 = x 1 := Fin.ext (by show 0 + 1 * (x 1).val = _; omega)
  unfold cat
  congr 1
  · exact Fin.ext (by show _ / 64 = _; rw [h0]; omega)
  · rw [h1]
    refine Eq.trans ?_ (ix2_eta x)
    congr 1
    exact Fin.ext (by show _ % 64 = _; rw [h0]; omega)

theorem off33_eq : ∀ (c : Dev nD) (k : Fin 8), k0_off33 c (BitVec.ofNat 32 (64 * k.val)) = ![512 * (c.val % 2) + 64 * k.val, 0] := by
  decide +kernel
theorem off34_eq : ∀ (c : Dev nD) (k : Fin 8), k0_off34 c (BitVec.ofNat 32 (64 * k.val)) = ![512 * (1 - c.val % 2) + 64 * k.val, 0] := by
  decide +kernel

theorem ra_emb0 (c : Dev nD) (k : Fin 8) (x : S64x1024.Idx) : (((raR c k).emb x) 0).val = 512 * (c.val % 2) + 64 * k.val + (x 0).val := by
  show k0_off33 c (BitVec.ofNat 32 (64 * k.val)) 0 + 1 * (x 0).val = _
  rw [off33_eq]; show 512 * (c.val % 2) + 64 * k.val + 1 * (x 0).val = _; omega
theorem ra_emb1 (c : Dev nD) (k : Fin 8) (x : S64x1024.Idx) : ((raR c k).emb x) 1 = x 1 := Fin.ext (by
  show k0_off33 c (BitVec.ofNat 32 (64 * k.val)) 1 + 1 * (x 1).val = _
  rw [off33_eq]; show 0 + 1 * (x 1).val = _; omega)
theorem rb_emb0 (c : Dev nD) (k : Fin 8) (x : S64x1024.Idx) : (((rbR c k).emb x) 0).val = 512 * (1 - c.val % 2) + 64 * k.val + (x 0).val := by
  show k0_off34 c (BitVec.ofNat 32 (64 * k.val)) 0 + 1 * (x 0).val = _
  rw [off34_eq]; show 512 * (1 - c.val % 2) + 64 * k.val + 1 * (x 0).val = _; omega
theorem rb_emb1 (c : Dev nD) (k : Fin 8) (x : S64x1024.Idx) : ((rbR c k).emb x) 1 = x 1 := Fin.ext (by
  show k0_off34 c (BitVec.ofNat 32 (64 * k.val)) 1 + 1 * (x 1).val = _
  rw [off34_eq]; show 0 + 1 * (x 1).val = _; omega)

theorem outF_ra (c : Dev nD) (k : Fin 8) (x : S64x1024.Idx) : outF I c ((raR c k).emb x) = RA I c k x := by
  have hx : (x 0).val < 64 := (x 0).isLt
  have hk := k.isLt
  unfold outF
  rw [if_pos (by rw [ra_emb0]; omega)]
  congr 1
  · exact Fin.ext (by show _ % 512 / 64 = _; rw [ra_emb0]; omega)
  · rw [ra_emb1]
    refine Eq.trans ?_ (ix2_eta x)
    congr 1
    exact Fin.ext (by show _ % 64 = _; rw [ra_emb0]; omega)
theorem outF_rb (c : Dev nD) (k : Fin 8) (x : S64x1024.Idx) : outF I c ((rbR c k).emb x) = RB I c k x := by
  have hx : (x 0).val < 64 := (x 0).isLt
  have hk := k.isLt
  unfold outF
  rw [if_neg (by rw [rb_emb0]; omega)]
  congr 1
  · exact Fin.ext (by show _ % 512 / 64 = _; rw [rb_emb0]; omega)
  · rw [rb_emb1]
    refine Eq.trans ?_ (ix2_eta x)
    congr 1
    exact Fin.ext (by show _ % 64 = _; rw [rb_emb0]; omega)

/-- A full write through a view is, on the view's elements, any contents that read back what was written. -/
theorem write_eqOn {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

theorem read_xs (c : Dev nD) (k : Fin 8) : (xsC k).view.read (Elt F) (cat (X I c)) = X I c k := funext fun x => cat_emb (X I c) k x
theorem read_xr (c : Dev nD) (k : Fin 8) : (xrC k).view.read (Elt F) (cat (X I c)) = X I c k := funext fun x => cat_emb (X I c) k x
theorem read_ys (c : Dev nD) (k : Fin 8) : (ysC k).view.read (Elt F) (cat (Y I c)) = Y I c k := funext fun x => cat_emb (Y I c) k x
theorem read_yr (c : Dev nD) (k : Fin 8) : (yrC k).view.read (Elt F) (cat (Y I c)) = Y I c k := funext fun x => cat_emb (Y I c) k x
theorem read_ra (c : Dev nD) (k : Fin 8) : (raC c k).view.read (Elt F) (outF I c) = RA I c k := funext fun x => outF_ra I c k x
theorem read_rb (c : Dev nD) (k : Fin 8) : (rbC c k).view.read (Elt F) (outF I c) = RB I c k := funext fun x => outF_rb I c k x

/-! ## Cells and points-tos -/

abbrev barCell (c : Dev nD) : GSem nD τ sig := ((c : Thread nD τ), .reg barS)
/-- The four arrays of cells of the protocol: sends along x, receives along x, sends along y, receives along y. -/
def dS (i : Fin 4) (k : Fin 8) : DmaSem sig := match i with | 0 => xsS k | 1 => xrS k | 2 => ysS k | 3 => yrS k
abbrev cell (c : Dev nD) (i : Fin 4) (k : Fin 8) : GSem nD τ sig := ((c : Thread nD τ), .dma (dS i k))

theorem dS_val : ∀ (i : Fin 4) (k : Fin 8), (dS i k).val = 11 + 8 * i.val + k.val := by decide +kernel
theorem gS_val : ∀ (k : Fin 8), (gS k).val = 2 + k.val := by decide +kernel
theorem oS_val : oS.val = 10 := by decide +kernel
theorem barS_uniq : ∀ s : Sem sig, s = barS := by decide +kernel

/-- The elements a chunk's copy moves, in the semaphores' units. -/
abbrev N : ℕ := (xrC 0).view.dmaCredit
theorem N_pos : 0 < N := View.dmaCredit_pos _ (by decide)

/-- A memref's elements on device `c` at contents `f`, share `q`. -/
abbrev at_ {sp : Space} {s : Shape} {e : EltTy} (c : Dev nD) (v : Memref sig .tc sp s e) (q : PosShare TreeShare)
    (f : Buf (Elt F) (v.view.loc (c : Thread nD τ))) : sProp (AM F) :=
  v.view.loc (c : Thread nD τ) ↦[v.view.set]{q} f
/-- A memref's elements, whole, at some contents. -/
abbrev any_ {sp : Space} {s : Shape} {e : EltTy} (c : Dev nD) (v : Memref sig .tc sp s e) : sProp (AM F) :=
  iprop(∃ f, at_ c v fullShare f)

/-- The share of a send's source lent to the copy, and the share kept. -/
abbrev qLent : PosShare TreeShare := Transfers.shareTokN fullShare 0
abbrev qKept : PosShare TreeShare := Transfers.shareDrop fullShare 1

/-! ## The schedule -/

/-- What the neighbour `p` pays into a barrier: its receive buffer of array `i`, chunk by chunk, and that its receive
    cells are open. -/
def barPay (p : Dev nD) (i : Fin 4) (buf : Fin 8 → Memref sig .tc .vmem S64x1024 .bf16) : sProp (AM F) :=
  bigSep Finset.univ fun k => iprop(any_ p (buf k) ∗ reached ER (cell p i k) 0)

/-- What is paid into the cell of array `i` and chunk `k` on device `c`: a send's source back, or a receive's landing. -/
def dmaPay (c : Dev nD) (i : Fin 4) (k : Fin 8) : sProp (AM F) :=
  match i with
  | 0 => at_ c (xsC k) qLent (cat (X I c))
  | 1 => at_ c (xrC k) fullShare (cat (X I (xp c)))
  | 2 => at_ c (ysC k) qLent (cat (Y I c))
  | 3 => at_ c (yrC k) fullShare (cat (Y I (yp c)))

/-- Which of the four arrays, and which chunk, a semaphore is of. -/
def arrOf (s : DmaSem sig) : Fin 4 := ⟨(s.val - 11) / 8 % 4, Nat.mod_lt _ (by decide)⟩
def chOf (s : DmaSem sig) : Fin 8 := ⟨(s.val - 11) % 8, Nat.mod_lt _ (by decide)⟩
theorem arrOf_dS : ∀ i k, arrOf (dS i k) = i := by decide +kernel
theorem chOf_dS : ∀ i k, chOf (dS i k) = k := by decide +kernel
theorem dS_arr_ch : ∀ s : DmaSem sig, 11 ≤ s.val → dS (arrOf s) (chOf s) = s := by decide +kernel

/-- One round on every cell: a barrier is paid by both neighbours (`true` along x, `false` along y), every other cell by
    one copy. -/
def rd : Rounds.Schedule (GSem nD τ sig) Bool (AM F) where
  duties g r := if r = 0 ∧ g.1.2 = .tc then
      (match g.2 with | .reg _ => Finset.univ | .dma s => if 11 ≤ s.val then {true} else ∅)
    else ∅
  unitless _ := False
  amount g _ _ := match g.2 with | .reg _ => 1 | .dma _ => N
  payload g _ b := match g.2 with
    | .reg _ => if b then barPay (xp g.1.1) 1 xrC else barPay (yp g.1.1) 3 yrC
    | .dma s => dmaPay I g.1.1 (arrOf s) (chOf s)
  amount_pos g _ _ _ := by
    rcases g with ⟨_, _ | _⟩
    · exact Nat.one_pos
    · exact N_pos

instance rd_storable (g : GSem nD τ sig) (r : ℕ) (b : Bool) : BI.Storable (upEmb : UEmb _ (AM F)) ((rd I).payload g r b) := by
  rcases g with ⟨t, s | s⟩
  · show BI.Storable upEmb (if b then barPay (xp t.1) 1 xrC else barPay (yp t.1) 3 yrC)
    unfold barPay
    split <;> infer_instance
  · show BI.Storable upEmb (dmaPay I t.1 (arrOf s) (chOf s))
    unfold dmaPay
    split <;> infer_instance

theorem duties_bar (c : Dev nD) : (rd I).duties (barCell c) 0 = Finset.univ := by dsimp only [rd]; exact if_pos ⟨rfl, rfl⟩
theorem duties_dma (c : Dev nD) (i : Fin 4) (k : Fin 8) : (rd I).duties (cell c i k) 0 = {true} := by
  dsimp only [rd]
  rw [if_pos ⟨rfl, rfl⟩, if_pos (by rw [dS_val]; omega)]
theorem duties_later (g : GSem nD τ sig) : ∀ r, 1 ≤ r → (rd I).duties g r = ∅ :=
  fun r hr => by dsimp only [rd]; exact if_neg (fun h => by omega)
theorem payload_dma (c : Dev nD) (i : Fin 4) (k : Fin 8) (b : Bool) : (rd I).payload (cell c i k) 0 b = dmaPay I c i k := by
  show dmaPay I c (arrOf (dS i k)) (chOf (dS i k)) = _
  rw [arrOf_dS, chOf_dS]
theorem expect_bar (c : Dev nD) : (rd I).expect (barCell c) 0 = 2 := by
  unfold Schedule.expect Schedule.amountOf; rw [duties_bar]; rfl
theorem expect_dma (c : Dev nD) (i : Fin 4) (k : Fin 8) : (rd I).expect (cell c i k) 0 = N := by
  unfold Schedule.expect Schedule.amountOf; rw [duties_dma, Finset.sum_singleton]; rfl
theorem rest_bar (c : Dev nD) : bigSep ((rd I).duties (barCell c) 0 \ ∅) (fun b => (rd I).payload (barCell c) 0 b)
    = iprop(barPay (xp c) 1 xrC ∗ barPay (yp c) 3 yrC) := by
  rw [Finset.sdiff_empty, duties_bar, show (Finset.univ : Finset Bool) = insert true {false} from rfl, bigSep_insert (by decide), bigSep_singleton]
  rfl
theorem rest_dma (c : Dev nD) (i : Fin 4) (k : Fin 8) :
    bigSep ((rd I).duties (cell c i k) 0 \ ∅) (fun b => (rd I).payload (cell c i k) 0 b) = dmaPay I c i k := by
  rw [Finset.sdiff_empty, duties_dma, bigSep_singleton, payload_dma]

/-! ## What each core owes; the levels -/

/-- What device `c` owes its neighbour's receive cells of array `i` from chunk `j` on. -/
def owFrom (p : Dev nD) (i : Fin 4) (j : ℕ) : CellTallies nD τ sig Unit :=
  ∑ k ∈ (Finset.univ : Finset (Fin 8)).filter (fun k => j ≤ k.val), tallyAt (cell p i k) () N

theorem owFrom_step (p : Dev nD) (i : Fin 4) (k : Fin 8) : owFrom p i k.val = owFrom p i (k.val + 1) + tallyAt (cell p i k) () N := by
  unfold owFrom
  rw [show (Finset.univ : Finset (Fin 8)).filter (fun k' => k.val ≤ k'.val) = insert k ((Finset.univ : Finset (Fin 8)).filter (fun k' => k.val + 1 ≤ k'.val)) from by
    ext k'; simp only [Finset.mem_filter, Finset.mem_univ, true_and, Finset.mem_insert, Fin.ext_iff]; omega,
    Finset.sum_insert (by simp), add_comm]
theorem owFrom_end (p : Dev nD) (i : Fin 4) : owFrom p i 8 = 0 := by
  unfold owFrom
  exact Finset.sum_eq_zero fun k hk => absurd (Finset.mem_filter.mp hk).2 (by have := k.isLt; omega)

/-- What device `c` owes once it has sent the chunks below `jx` along x and those below `jy` along y. -/
abbrev ow (c : Dev nD) (jx jy : ℕ) : CellTallies nD τ sig Unit := owFrom (xp c) 1 jx + owFrom (yp c) 3 jy

/-- What device `c` owes at launch. -/
def O₀ (c : Dev nD) : CellTallies nD τ sig Unit := ow c 0 0 + tallyAt (barCell (yp c)) () 1 + tallyAt (barCell (xp c)) () 1

def L (g : GSem nD τ sig) : Finset Unit := if g.1.2 = .tc then {()} else ∅
/-- The barriers at 1, the receives along x at 2, those along y at 3, the rest at 0. -/
def lv (g : GSem nD τ sig) (_ : Unit) : ℕ := match g.2 with
  | .reg _ => 1
  | .dma s => if 11 ≤ s.val then (if arrOf s = 1 then 2 else if arrOf s = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_dma (c : Dev nD) (i : Fin 4) (k : Fin 8) (u : Unit) :
    lv (cell c i k) u = if i = 1 then 2 else if i = 3 then 3 else 0 := by
  show (if 11 ≤ (dS i k).val then _ else _) = _
  rw [if_pos (by rw [dS_val]; omega), arrOf_dS]

/-- A cell owed on: it is a receive cell of a neighbour. -/
theorem owFrom_pos {p : Dev nD} {i : Fin 4} {j : ℕ} {g : GSem nD τ sig} {u : Unit} (h : 0 < owFrom p i j g u) : ∃ k, g = cell p i k := by
  unfold owFrom at h
  rw [Finset.sum_apply, Finsupp.finset_sum_apply] at h
  obtain ⟨k, -, hk⟩ := Finset.exists_ne_zero_of_sum_ne_zero (Nat.pos_iff_ne_zero.mp h)
  refine ⟨k, ?_⟩
  rw [tallyAt_apply] at hk
  by_contra hg
  exact hk (if_neg fun h => hg h.1)

/-- Waiting at level `n` while owing only on receive cells above it. -/
theorem mayWait (c : Dev nD) (sm : SemLoc sig) (n jx jy : ℕ) (hlv : lv ((c : Thread nD τ), sm) () ≤ n) (hx : n < 2 ∨ 8 ≤ jx) (hy : n < 3) :
    (levAts L lv : sProp (AM F)) ⊢ MayWait (c : Thread nD τ) sm () (ow c jx jy) := by
  have key : ∀ g u, 0 < (ow c jx jy) g u → g.1.2 = .tc ∧ n < lv g u := by
    intro g u h
    have h' : 0 < owFrom (xp c) 1 jx g u + owFrom (yp c) 3 jy g u := h
    rcases Nat.eq_zero_or_pos (owFrom (xp c) 1 jx g u) with h0 | h0
    · obtain ⟨k, rfl⟩ := owFrom_pos (show 0 < owFrom (yp c) 3 jy g u by omega)
      refine ⟨rfl, ?_⟩
      rw [lv_dma, if_neg (by decide), if_pos rfl]; omega
    · obtain ⟨k, rfl⟩ := owFrom_pos h0
      refine ⟨rfl, ?_⟩
      rw [lv_dma, if_pos rfl]
      rcases hx with hx | hx
      · exact hx
      · exfalso
        have : owFrom (xp c) 1 jx = 0 := by
          unfold owFrom
          exact Finset.sum_eq_zero fun k hk => absurd (Finset.mem_filter.mp hk).2 (by have := k.isLt; omega)
        rw [this] at h0; exact absurd h0 (Nat.lt_irrefl 0)
  refine MayOwe.of_cut (L := L) (lev := lv) n (fun p hp => ?_) (fun g u hg => ?_) (fun p hp => ?_) (fun g u hg => (key g u hg).2)
  · rw [Finset.mem_singleton.mp hp, L_tc]; exact Finset.mem_singleton_self _
  · unfold L; rw [if_pos (key g u hg).1]; exact Finset.mem_singleton_self _
  · rw [Finset.mem_singleton.mp hp]; exact hlv

theorem lv_g (c : Dev nD) (k : Fin 8) (u : Unit) : lv ((c : Thread nD τ), .dma (gS k)) u = 0 := by
  show (if 11 ≤ (gS k).val then _ else _) = _
  rw [if_neg (by rw [gS_val]; omega)]

end Cert.KernelIdeal.Run
-- ==== Proof.Phases.lean ====
/- The phases of the body that talk: each one's run, for a symbolic device and a symbolic chunk. -/
module

public import proofs.«01_k».proof.Proof.Sched

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- The run of a piece of the body on device `c`. -/
abbrev run (c : Dev nD) (p : PR F PUnit) (Q : PUnit → sProp (AM F)) : sProp (AM F) :=
  wp frame (wpE (defs₀ (F := F)) 𝒱₀ (c : Thread nD τ) none) Set.univ p Q

variable (I : In F) (K : GSem nD τ sig → ℕ)

/-- The invariant of a cell of the protocol. -/
abbrev inv (g : GSem nD τ sig) : sProp (AM F) := cellInv ER (rd I) (K g) g

/-- Chunk `k` of the gathered rows. -/
abbrev stC (k : Fin 8) : Memref sig .tc .vmem S64x1024 .f32 := mStg.slice (chR k) (fun _ => rfl)

theorem ow_stepx (c : Dev nD) (k : Fin 8) (jy : ℕ) : ow c k.val jy = ow c (k.val + 1) jy + tallyAt (cell (xp c) 1 k) () N := by
  unfold ow; rw [owFrom_step (xp c) 1 k, add_right_comm]
theorem ow_stepy (c : Dev nD) (k : Fin 8) (jx : ℕ) : ow c jx k.val = ow c jx (k.val + 1) + tallyAt (cell (yp c) 3 k) () N := by
  unfold ow; rw [owFrom_step (yp c) 3 k, ← add_assoc]

/-- A memref's elements at contents equal on them. -/
theorem at_eqOn {sp : Space} {s : Shape} {e : EltTy} (c : Dev nD) (v : Memref sig .tc sp s e) (q : PosShare TreeShare)
    {f g : Buf (Elt F) (v.view.loc (c : Thread nD τ))} (h : ∀ i ∈ v.view.set, f i = g i) : at_ c v q f ⊢ at_ c v q g :=
  Entails.of_eq (pointsTo_congr h)

/-- The whole share is the share lent and the share kept. -/
theorem at_lend {sp : Space} {s : Shape} {e : EltTy} (c : Dev nD) (v : Memref sig .tc sp s e)
    (f : Buf (Elt F) (v.view.loc (c : Thread nD τ))) : at_ c v fullShare f ⊢ iprop(at_ c v qKept f ∗ at_ c v qLent f) := by
  refine (Transfers.pointsTo_toks_range fullShare 1).1.trans ?_
  rw [Finset.range_one, bigSep_singleton]
theorem at_return {sp : Space} {s : Shape} {e : EltTy} (c : Dev nD) (v : Memref sig .tc sp s e)
    (f : Buf (Elt F) (v.view.loc (c : Thread nD τ))) : iprop(at_ c v qKept f ∗ at_ c v qLent f) ⊢ at_ c v fullShare f := by
  refine BI.Entails.trans ?_ (Transfers.pointsTo_toks_range fullShare 1).2
  rw [Finset.range_one, bigSep_singleton]
  exact BI.Entails.refl _

set_option maxHeartbeats 1000000 in
/-- The send of chunk `k` along x: the chunk masked and narrowed, a share of it lent to the copy. -/
theorem sendX_run (c : Dev nD) (k : Fin 8) (P : PR F PUnit) (Q : PUnit → sProp (AM F)) (W : Waits sig Unit)
    (g : S512x1024.Idx → Elt F .f32) (hg : k0_pay1 (voffW c) (idcAt I c k) ((stC k).view.read (Elt F) g) = X I c k) :
    iprop(inv I K (cell c 0 k) ∗ inv I K (cell (xp c) 1 k)
      ∗ at_ c mIdc fullShare (I.idc c) ∗ at_ c (stC k) fullShare g ∗ any_ c (xsC k) ∗ any_ (xp c) (xrC k)
      ∗ owes (c : Thread nD τ) (ow c k.val 0) W
      ∗ dutyTok ER (cell c 0 k) 0 true ∗ reached ER (cell c 0 k) 0
      ∗ dutyTok ER (cell (xp c) 1 k) 0 true ∗ reached ER (cell (xp c) 1 k) 0
      ∗ (iprop(at_ c mIdc fullShare (I.idc c) ∗ at_ c (stC k) fullShare g ∗ at_ c (xsC k) qKept (cat (X I c))
          ∗ cred (tallyAt (cell c 0 k) () N) ∗ owes (c : Thread nD τ) (ow c (k.val + 1) 0) W) -∗ run c P Q))
    ⊢ run c (sendX c k P) Q := by
  iintro ⟨#HIs, #HIr, Hidc, Hst, ⟨%f0, Hxs⟩, ⟨%f1, Hxr⟩, HO, Ht, Hr, Ht', Hr', Hk⟩
  unfold sendX run
  sl_exec
  have e : ∀ i ∈ (xsC k).view.set, sendX_run.sl.Hxs_w1 I c k g f0 i = cat (X I c) i := by
    unfold sendX_run.sl.Hxs_w1
    exact write_eqOn (xsC k).view f0 _ _ ((read_xs I c k).trans hg.symm)
  ihave Hxs := (at_eqOn c (xsC k) fullShare e) $$ Hxs
  ihave Hxs := (at_lend c (xsC k) (cat (X I c))) $$ Hxs
  icases Hxs with ⟨Hkept, Hlent⟩
  iapply (Rounds.wp_send_pointsTo 𝒱₀ ER (rd I) (c : Thread nD τ) none (c' := (xp c : Thread nD τ)) (src := xsC k) (dst := xrC k)
      (sS := .dma (dS 0 k)) (sem := .dma (dS 1 k)) (q := qLent) (fs := cat (X I c)) (κ₁ := K (cell c 0 k)) (κ₂ := K (cell (xp c) 1 k))
      (r₁ := 0) (r₂ := 0) (d₁ := true) (d₂ := true) (fd := f1)
      (by rw [duties_dma]; exact Finset.mem_singleton_self _) (by rw [duties_dma]; exact Finset.mem_singleton_self _)
      () () N rfl rfl rfl (ow c (k.val + 1) 0) (ow_stepx c k 0) (W := W)
      (by rw [payload_dma]; exact BI.Entails.refl _)
      (by rw [payload_dma]; unfold dmaPay; dsimp only
          rw [xp_xp]
          exact at_eqOn (xp c) (xrC k) fullShare (write_eqOn (xrC k).view _ _ _ ((read_xr I c k).trans (read_xs I c k).symm)))) $$ [Hlent Hxr HO Ht Hr Ht' Hr']
  · isplitr; · iexact HIs
    isplitr; · iexact HIr
    isplitl [Hlent]; · iexact Hlent
    isplitl [Hxr]; · iexact Hxr
    isplitl [HO]; · iexact HO
    isplitl [Ht]; · iexact Ht
    isplitl [Hr]; · iexact Hr
    isplitl [Ht']; · iexact Ht'
    iexact Hr'
  iintro ⟨Hc, HO⟩
  iapply Hk
  isplitl [Hidc]; · iexact Hidc
  isplitl [Hst]; · iexact Hst
  isplitl [Hkept]; · iexact Hkept
  isplitl [Hc]; · iexact Hc
  iexact HO

/-! ## The copies to the result -/

/-- The elements a copy to the result moves, in the semaphore's units. -/
abbrev NO : ℕ := (oaC 0).view.dmaCredit
theorem NO_pos : 0 < NO := View.dmaCredit_pos _ (by decide)

/-- What the copy of chunk `k` of the own half brings: its rows of the result, and the rows it read. -/
def oPayA (c : Dev nD) (k : Fin 8) : sProp (AM F) := iprop(at_ c (raC c k) fullShare (outF I c) ∗ any_ c (oaC k))
/-- The same of the other half. -/
def oPayB (c : Dev nD) (k : Fin 8) : sProp (AM F) := iprop(at_ c (rbC c k) fullShare (outF I c) ∗ any_ c (obC k))
/-- The sixteen copies in the order they are issued. -/
def oPay (c : Dev nD) (i : Fin 16) : sProp (AM F) :=
  if h : i.val < 8 then oPayA I c ⟨i.val, h⟩ else oPayB I c ⟨i.val - 8, by omega⟩
instance oPay_storable (c : Dev nD) (i : Fin 16) : BI.Storable (upEmb : UEmb _ (AM F)) (oPay I c i) := by
  unfold oPay oPayA oPayB; split <;> infer_instance
/-- The copies to the result, `j` issued and `u` units waited for. -/
abbrev oB (c : Dev nD) (j u : ℕ) : sProp (AM F) := Transfers.Batch (EC (F := F)) (c : Thread nD τ) (.dma oS) () NO (oPay I c) j u

set_option maxHeartbeats 2000000 in
/-- Chunk `k` received along x: reduced, sent along y with a share lent to the copy, and on its way to the result. -/
theorem recvX_run (c : Dev nD) (k : Fin 8) (P : PR F PUnit) (Q : PUnit → sProp (AM F)) (W : Waits sig Unit) :
    iprop(inv I K (cell c 1 k) ∗ inv I K (cell c 2 k) ∗ inv I K (cell (yp c) 3 k) ∗ levAts L lv
      ∗ atPos ER (cell c 1 k) 0 ∅ 0 ∗ cred (tallyAt (cell c 1 k) () N)
      ∗ at_ c (xsC k) qKept (cat (X I c)) ∗ any_ c (ysC k) ∗ any_ (yp c) (yrC k) ∗ any_ c (oaC k) ∗ any_ c (raC c k)
      ∗ oB I c k.val 0
      ∗ owes (c : Thread nD τ) (ow c 8 k.val) W
      ∗ dutyTok ER (cell c 2 k) 0 true ∗ reached ER (cell c 2 k) 0
      ∗ dutyTok ER (cell (yp c) 3 k) 0 true ∗ reached ER (cell (yp c) 3 k) 0
      ∗ (iprop(atPos ER (cell c 1 k) (0 + 1) ∅ 0 ∗ at_ c (xrC k) fullShare (cat (X I (xp c)))
          ∗ at_ c (xsC k) qKept (cat (X I c)) ∗ at_ c (ysC k) qKept (cat (Y I c))
          ∗ oB I c (k.val + 1) 0
          ∗ cred (tallyAt (cell c 2 k) () N) ∗ ∃ W', owes (c : Thread nD τ) (ow c 8 (k.val + 1)) W') -∗ run c P Q))
    ⊢ run c (recvX c k P) Q := by
  iintro ⟨#HIr, #HIs, #HIy, #Hlev, Hat, Hcr, Hxs, ⟨%f0, Hys⟩, ⟨%f1, Hyr⟩, ⟨%f2, Hoa⟩, ⟨%f3, Hra⟩, HB, HO, Ht, Hr, Ht', Hr', Hk⟩
  unfold recvX run
  iapply (Rounds.wp_wait_rest_token 𝒱₀ ER (rd I) (c : Thread nD τ) none (κ := K (cell c 1 k))
      (wpE_waitDma2_eq (src := xsC k) (dst := xrC k) 𝒱₀ (c : Thread nD τ) none Set.univ) (Set.mem_univ _) () (O := ow c 8 k.val) (W := W) (R := 0) (m := 0) (T := ∅)
      ((Nat.zero_add _).trans (expect_dma I c 1 k).symm)) $$ [Hcr HO Hat]
  · isplitr; · iexact HIr
    isplitl [Hcr]; · iexact Hcr
    isplitl [HO]; · iexact HO
    isplitr; · iapply (mayWait c (.dma (dS 1 k)) 2 8 k.val (by rw [lv_dma]; decide) (.inr (le_refl 8)) (by decide)); iexact Hlev
    iexact Hat
  iintro ⟨HO, Hat, -, Hpay⟩
  ihave Hxr := (Entails.of_eq (rest_dma I c 1 k)) $$ Hpay
  unfold dmaPay
  dsimp only
  simp only [Prog.bind]
  sl_exec
  have ea : View.readAt (Elt F) mXs.view (chR k).toLoadRect (cat (X I c)) = X I c k := read_xs I c k
  have eb : View.readAt (Elt F) mXr.view (chR k).toLoadRect (cat (X I (xp c))) = X I (xp c) k := read_xr I (xp c) k
  have e : ∀ i ∈ (ysC k).view.set, recvX_run.sl.Hys_w1 I c k f0 i = cat (Y I c) i := by
    unfold recvX_run.sl.Hys_w1
    refine write_eqOn (ysC k).view f0 _ _ ((read_ys I c k).trans ?_)
    rw [ea, eb]; rfl
  ihave Hys := (at_eqOn c (ysC k) fullShare e) $$ Hys
  ihave Hys := (at_lend c (ysC k) (cat (Y I c))) $$ Hys
  icases Hys with ⟨Hkept, Hlent⟩
  rw [ea, eb]
  iapply (Rounds.wp_send_pointsTo 𝒱₀ ER (rd I) (c : Thread nD τ) none (c' := (yp c : Thread nD τ)) (src := ysC k) (dst := yrC k)
      (sS := .dma (dS 2 k)) (sem := .dma (dS 3 k)) (q := qLent) (fs := cat (Y I c)) (κ₁ := K (cell c 2 k)) (κ₂ := K (cell (yp c) 3 k))
      (r₁ := 0) (r₂ := 0) (d₁ := true) (d₂ := true) (fd := f1)
      (by rw [duties_dma]; exact Finset.mem_singleton_self _) (by rw [duties_dma]; exact Finset.mem_singleton_self _)
      () () N rfl rfl rfl (ow c 8 (k.val + 1)) (ow_stepy c k 8) (W := insert (SemLoc.dma (dS 1 k), ()) W)
      (by rw [payload_dma]; exact BI.Entails.refl _)
      (by rw [payload_dma]; unfold dmaPay; dsimp only
          rw [yp_yp]
          exact at_eqOn (yp c) (yrC k) fullShare (write_eqOn (yrC k).view _ _ _ ((read_yr I c k).trans (read_ys I c k).symm)))) $$ [Hlent Hyr HO Ht Hr Ht' Hr']
  · isplitr; · iexact HIs
    isplitr; · iexact HIy
    isplitl [Hlent]; · iexact Hlent
    isplitl [Hyr]; · iexact Hyr
    isplitl [HO]; · iexact HO
    isplitl [Ht]; · iexact Ht
    isplitl [Hr]; · iexact Hr
    isplitl [Ht']; · iexact Ht'
    iexact Hr'
  iintro ⟨Hc, HO⟩
  unfold oB
  have hk := k.isLt
  sl_exec
  have e2 : ∀ i ∈ (raC c k).view.set, (raC c k).view.write (Elt F) f3
      ((oaC k).view.read (Elt F) (recvX_run.sl.Hoa_w1 I c k f2)) Finset.univ i = outF I c i :=
    write_eqOn (raC c k).view f3 _ _ ((read_ra I c k).trans (by
      unfold recvX_run.sl.Hoa_w1
      exact (View.read_write_univ (v := (oaC k).view) (f := f2) (RA I c k)).symm))
  iapply (Transfers.wp_dmaBatch EC 𝒱₀ (c : Thread nD τ) none (src := oaC k) (dst := raC c k) (sm := .dma oS) (q := fullShare)
      (fs := recvX_run.sl.Hoa_w1 I c k f2) (Sd := (raC c k).view.set) (fd := f3) (D := oPay I c) (j := k.val) (u := 0)
      () NO rfl (Finset.Subset.refl _) (by omega) (Nat.zero_le _)
      (by
        unfold oPay
        rw [dif_pos hk]
        unfold oPayA
        iintro ⟨H, Ho⟩
        isplitl [H]
        · iapply (at_eqOn c (raC c k) fullShare e2) $$ H
        iexists _; iexact Ho)) $$ [Hoa Hra HB]
  · isplitl [Hoa]; · iexact Hoa
    isplitl [Hra]; · iexact Hra
    iexact HB
  iintro HB
  iapply Hk
  isplitl [Hat]; · iexact Hat
  isplitl [Hxr]; · iexact Hxr
  isplitl [Hxs]; · iexact Hxs
  isplitl [Hkept]; · iexact Hkept
  isplitl [HB]; · iexact HB
  isplitl [Hc]; · iexact Hc
  iexists _; iexact HO

set_option maxHeartbeats 2000000 in
/-- Chunk `k` received along y and on its way to the result. -/
theorem recvY_run (c : Dev nD) (k : Fin 8) (P : PR F PUnit) (Q : PUnit → sProp (AM F)) (W : Waits sig Unit) :
    iprop(inv I K (cell c 3 k) ∗ levAts L lv
      ∗ atPos ER (cell c 3 k) 0 ∅ 0 ∗ cred (tallyAt (cell c 3 k) () N)
      ∗ any_ c (obC k) ∗ any_ c (rbC c k)
      ∗ oB I c (8 + k.val) 0
      ∗ owes (c : Thread nD τ) 0 W
      ∗ (iprop(atPos ER (cell c 3 k) (0 + 1) ∅ 0 ∗ at_ c (yrC k) fullShare (cat (Y I (yp c)))
          ∗ oB I c (8 + k.val + 1) 0
          ∗ ∃ W', owes (c : Thread nD τ) 0 W') -∗ run c P Q))
    ⊢ run c (recvY c k P) Q := by
  iintro ⟨#HIr, #Hlev, Hat, Hcr, ⟨%f2, Hoa⟩, ⟨%f3, Hra⟩, HB, HO, Hk⟩
  unfold recvY run
  iapply (Rounds.wp_wait_rest_token 𝒱₀ ER (rd I) (c : Thread nD τ) none (κ := K (cell c 3 k))
      (wpE_waitDma2_eq (src := ysC k) (dst := yrC k) 𝒱₀ (c : Thread nD τ) none Set.univ) (Set.mem_univ _) () (O := 0) (W := W) (R := 0) (m := 0) (T := ∅)
      ((Nat.zero_add _).trans (expect_dma I c 3 k).symm)) $$ [Hcr HO Hat]
  · isplitr; · iexact HIr
    isplitl [Hcr]; · iexact Hcr
    isplitl [HO]; · iexact HO
    isplitr; · rw [MayWait_zero]; iempintro
    iexact Hat
  iintro ⟨HO, Hat, -, Hpay⟩
  ihave Hyr := (Entails.of_eq (rest_dma I c 3 k)) $$ Hpay
  unfold dmaPay
  dsimp only
  simp only [Prog.bind]
  sl_exec
  have eb : View.readAt (Elt F) mYr.view (chR k).toLoadRect (cat (Y I (yp c))) = Y I (yp c) k := read_yr I (yp c) k
  have e2 : ∀ i ∈ (rbC c k).view.set, (rbC c k).view.write (Elt F) f3
      ((obC k).view.read (Elt F) (recvY_run.sl.Hoa_w1 I c k f2)) Finset.univ i = outF I c i :=
    write_eqOn (rbC c k).view f3 _ _ ((read_rb I c k).trans (by
      unfold recvY_run.sl.Hoa_w1
      rw [eb]
      exact (View.read_write_univ (v := (obC k).view) (f := f2) (RB I c k)).symm))
  have hk := k.isLt
  unfold oB
  iapply (Transfers.wp_dmaBatch EC 𝒱₀ (c : Thread nD τ) none (src := obC k) (dst := rbC c k) (sm := .dma oS) (q := fullShare)
      (fs := recvY_run.sl.Hoa_w1 I c k f2) (Sd := (rbC c k).view.set) (fd := f3) (D := oPay I c) (j := 8 + k.val) (u := 0)
      () NO rfl (Finset.Subset.refl _) (by omega) (Nat.zero_le _)
      (by
        unfold oPay
        rw [dif_neg (by dsimp only; omega), show (⟨8 + k.val - 8, by omega⟩ : Fin 8) = k from Fin.ext (by dsimp only; omega)]
        unfold oPayB
        iintro ⟨H, Ho⟩
        isplitl [H]
        · iapply (at_eqOn c (rbC c k) fullShare e2) $$ H
        iexists _; iexact Ho)) $$ [Hoa Hra HB]
  · isplitl [Hoa]; · iexact Hoa
    isplitl [Hra]; · iexact Hra
    iexact HB
  iintro HB
  iapply Hk
  isplitl [Hat]; · iexact Hat
  isplitl [Hyr]; · iexact Hyr
  isplitl [HB]; · iexact HB
  iexists _; iexact HO

/-- Both sends of chunk `k` are over: the shares lent to them are back. -/
theorem finS_run (c : Dev nD) (k : Fin 8) (P : PR F PUnit) (Q : PUnit → sProp (AM F)) (W : Waits sig Unit) :
    iprop(inv I K (cell c 0 k) ∗ inv I K (cell c 2 k)
      ∗ atPos ER (cell c 0 k) 0 ∅ 0 ∗ atPos ER (cell c 2 k) 0 ∅ 0
      ∗ cred (tallyAt (cell c 0 k) () N) ∗ cred (tallyAt (cell c 2 k) () N)
      ∗ at_ c (xsC k) qKept (cat (X I c)) ∗ at_ c (ysC k) qKept (cat (Y I c))
      ∗ owes (c : Thread nD τ) 0 W
      ∗ (iprop(atPos ER (cell c 0 k) (0 + 1) ∅ 0 ∗ atPos ER (cell c 2 k) (0 + 1) ∅ 0
          ∗ any_ c (xsC k) ∗ any_ c (ysC k)
          ∗ ∃ W', owes (c : Thread nD τ) 0 W') -∗ run c P Q))
    ⊢ run c (finS k P) Q := by
  iintro ⟨#HIx, #HIy, Hatx, Haty, Hcx, Hcy, Hxs, Hys, HO, Hk⟩
  unfold finS run
  iapply (Rounds.wp_wait_rest_token 𝒱₀ ER (rd I) (c : Thread nD τ) none (κ := K (cell c 0 k))
      (wpE_waitDma2_eq (src := xrC k) (dst := xsC k) 𝒱₀ (c : Thread nD τ) none Set.univ) (Set.mem_univ _) () (O := 0) (W := W) (R := 0) (m := 0) (T := ∅)
      ((Nat.zero_add _).trans (expect_dma I c 0 k).symm)) $$ [Hcx HO Hatx]
  · isplitr; · iexact HIx
    isplitl [Hcx]; · iexact Hcx
    isplitl [HO]; · iexact HO
    isplitr; · rw [MayWait_zero]; iempintro
    iexact Hatx
  iintro ⟨HO, Hatx, -, Hpay⟩
  ihave Hl := (Entails.of_eq (rest_dma I c 0 k)) $$ Hpay
  simp only [Prog.bind]
  iapply (Rounds.wp_wait_rest_token 𝒱₀ ER (rd I) (c : Thread nD τ) none (κ := K (cell c 2 k))
      (wpE_waitDma2_eq (src := yrC k) (dst := ysC k) 𝒱₀ (c : Thread nD τ) none Set.univ) (Set.mem_univ _) () (O := 0) (R := 0) (m := 0) (T := ∅)
      ((Nat.zero_add _).trans (expect_dma I c 2 k).symm)) $$ [Hcy HO Haty]
  · isplitr; · iexact HIy
    isplitl [Hcy]; · iexact Hcy
    isplitl [HO]; · iexact HO
    isplitr; · rw [MayWait_zero]; iempintro
    iexact Haty
  iintro ⟨HO, Haty, -, Hpay⟩
  ihave Hl' := (Entails.of_eq (rest_dma I c 2 k)) $$ Hpay
  unfold dmaPay
  dsimp only
  simp only [Prog.bind]
  iapply Hk
  isplitl [Hatx]; · iexact Hatx
  isplitl [Haty]; · iexact Haty
  isplitl [Hxs Hl]
  · iexists _
    iapply (at_return c (xsC k) (cat (X I c)))
    isplitl [Hxs] <;> iassumption
  isplitl [Hys Hl']
  · iexists _
    iapply (at_return c (ysC k) (cat (Y I c)))
    isplitl [Hys] <;> iassumption
  iexists _; iexact HO

/-- The rows a wait for a copy to the result names. -/
abbrev oWait : Memref sig .tc .hbm S64x1024 .f32 :=
  mOut.slice (Rect.unit (s := S1024x1024) ![0, 0] S64x1024.size inb_S1024x1024_S64x1024_0_0) (fun _ => rfl)
theorem oWait_credit : oWait.view.dmaCredit = 1 * NO := by rw [Nat.one_mul]

/-- One of the waits for the copies to the result. -/
theorem finO_run (c : Dev nD) (u : ℕ) (hu : u + NO ≤ NO * 16) (P : PR F PUnit) (Q : PUnit → sProp (AM F)) (W : Waits sig Unit) :
    iprop(oB I c 16 u ∗ owes (c : Thread nD τ) 0 W
      ∗ (iprop(oB I c 16 (u + NO) ∗ ∃ W', owes (c : Thread nD τ) 0 W') -∗ run c P Q))
    ⊢ run c (finO P) Q := by
  iintro ⟨HB, HO, Hk⟩
  unfold finO run oB
  iapply (Transfers.wp_waitBatchMulO EC 𝒱₀ (c : Thread nD τ) none (dstw := oWait) () (N := NO) 1 oWait_credit (by rw [Nat.one_mul]; exact hu)) $$ [HB HO]
  · isplitl [HB]; · iexact HB
    isplitl [HO]; · iexact HO
    rw [MayWait_zero]; iempintro
  rw [Nat.one_mul]
  iintro ⟨HB, HO⟩
  simp only [Prog.bind]
  iapply Hk
  isplitl [HB]; · iexact HB
  iexists _; iexact HO

theorem amount_bar (p : Dev nD) (b : Bool) : (rd I).amount (barCell p) 0 b = 1 := rfl

/-- The two signals: each neighbour is handed the buffer it will write, and that the cells it will signal are open. -/
theorem signals_run (c : Dev nD) (P : PR F PUnit) (Q : PUnit → sProp (AM F)) (W : Waits sig Unit) :
    iprop(inv I K (barCell (xp c)) ∗ inv I K (barCell (yp c))
      ∗ dutyTok ER (barCell (xp c)) 0 true ∗ reached ER (barCell (xp c)) 0
      ∗ dutyTok ER (barCell (yp c)) 0 false ∗ reached ER (barCell (yp c)) 0
      ∗ barPay c 1 xrC ∗ barPay c 3 yrC
      ∗ owes (c : Thread nD τ) (O₀ c) W
      ∗ (owes (c : Thread nD τ) (ow c 0 0) W -∗ run c P Q))
    ⊢ run c (signals c P) Q := by
  iintro ⟨#HIx, #HIy, Htx, #Hrx, Hty, #Hry, Hpx, Hpy, HO, Hk⟩
  unfold signals run
  iapply (Rounds.wp_signal 𝒱₀ ER (rd I) (c : Thread nD τ) none (dst := (xp c : Thread nD τ)) (sem := barS) (r := 0) (d := true) (κ := K (barCell (xp c)))
      (by rw [duties_bar]; exact Finset.mem_univ _) (amount_bar I (xp c) true) () (ow c 0 0 + tallyAt (barCell (yp c)) () 1) rfl)
    $$ [HO Htx Hpx]
  · isplitr; · iexact HIx
    isplitl [HO]; · iexact HO
    isplitl [Htx]; · iexact Htx
    isplitl [Hpx]
    · iapply (show barPay c 1 xrC ⊢ (rd I).payload (barCell (xp c)) 0 true from Entails.of_eq (by
        show _ = barPay (xp (xp c)) 1 xrC
        rw [xp_xp]))
      iexact Hpx
    · iexact Hrx
  iintro HO
  simp only [Prog.bind]
  iapply (Rounds.wp_signal 𝒱₀ ER (rd I) (c : Thread nD τ) none (dst := (yp c : Thread nD τ)) (sem := barS) (r := 0) (d := false) (κ := K (barCell (yp c)))
      (by rw [duties_bar]; exact Finset.mem_univ _) (amount_bar I (yp c) false) () (ow c 0 0) rfl)
    $$ [HO Hty Hpy]
  · isplitr; · iexact HIy
    isplitl [HO]; · iexact HO
    isplitl [Hty]; · iexact Hty
    isplitl [Hpy]
    · iapply (show barPay c 3 yrC ⊢ (rd I).payload (barCell (yp c)) 0 false from Entails.of_eq (by
        show _ = barPay (yp (yp c)) 3 yrC
        rw [yp_yp]))
      iexact Hpy
    · iexact Hry
  iintro HO
  simp only [Prog.bind]
  iapply Hk
  iexact HO

/-- The wait for both: the buffers the device will write. -/
theorem barWait_run (c : Dev nD) (P : PR F PUnit) (Q : PUnit → sProp (AM F)) (W : Waits sig Unit) :
    iprop(inv I K (barCell c) ∗ levAts L lv
      ∗ atPos ER (barCell c) 0 ∅ 0 ∗ cred (tallyAt (barCell c) () 2)
      ∗ owes (c : Thread nD τ) (ow c 0 0) W
      ∗ (iprop(atPos ER (barCell c) (0 + 1) ∅ 0 ∗ barPay (xp c) 1 xrC ∗ barPay (yp c) 3 yrC
          ∗ ∃ W', owes (c : Thread nD τ) (ow c 0 0) W') -∗ run c P Q))
    ⊢ run c (barWait P) Q := by
  iintro ⟨#HI, #Hlev, Hat, Hcr, HO, Hk⟩
  unfold barWait run
  iapply (Rounds.wp_wait_rest_token 𝒱₀ ER (rd I) (c : Thread nD τ) none (κ := K (barCell c))
      (wpE_semWait_eq 𝒱₀ (c : Thread nD τ) none Set.univ) (Set.mem_univ _) () (O := ow c 0 0) (W := W) (R := 0) (m := 0) (T := ∅)
      ((Nat.zero_add 2).trans (expect_bar I c).symm)) $$ [Hcr HO Hat]
  · isplitr; · iexact HI
    isplitl [Hcr]; · iexact Hcr
    isplitl [HO]; · iexact HO
    isplitr; · iapply (mayWait c (.reg barS) 1 0 0 (le_refl 1) (.inl (by decide)) (by decide)); iexact Hlev
    iexact Hat
  iintro ⟨HO, Hat, -, Hpay⟩
  ihave Hp := (Entails.of_eq (rest_bar I c)) $$ Hpay
  icases Hp with ⟨Hpx, Hpy⟩
  simp only [Prog.bind]
  iapply Hk
  isplitl [Hat]; · iexact Hat
  isplitl [Hpx]; · iexact Hpx
  isplitl [Hpy]; · iexact Hpy
  iexists _; iexact HO

end Cert.KernelIdeal.Run
-- ==== Proof.Words.lean ====
/- The words the body computes with: when an id names a row of the device's part of the table, and how many trips the
   drain of a count makes. -/
module

public import proofs.«01_k».proof.Proof.Phases

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-- The first row of a device's part, as a number. -/
theorem voff_cases : ∀ c : Dev nD, voffW c = BitVec.ofNat 32 (8192 * (c.val / 2)) := by decide +kernel

theorem bit_ofBool (b : Bool) : BitVec.ofBool b = 1#1 ↔ b = true := by cases b <;> decide

/-- A word between two words, signed, is the same as a bound on its unsigned value. -/
theorem between (w : BitVec 32) : ((0#32).sle w && w.slt 8192#32) = decide (w.toNat < 8192) := by
  have h : w.toInt = if 2 * w.toNat < 2 ^ 32 then (w.toNat : Int) else (w.toNat : Int) - (2 ^ 32 : Nat) := BitVec.toInt_eq_toNat_cond w
  have hw := w.isLt
  rw [BitVec.sle, BitVec.slt]
  rw [show (0#32).toInt = 0 from rfl, show (8192#32).toInt = 8192 from rfl]
  rw [Bool.eq_iff_iff]
  simp only [Bool.and_eq_true, decide_eq_true_eq]
  split at h <;> rw [h] <;> omega

theorem inW_eq (c : Dev nD) (v : BitVec 32) : inW c v = BitVec.ofBool (decide (rowOf c v < 8192)) := by
  unfold inW rowOf
  rw [← between]
  show BitVec.ofBool ((0#32).sle (Scalar.subi v (voffW c))) &&& BitVec.ofBool ((Scalar.subi v (voffW c)).slt 8192#32) = _
  generalize (0#32).sle (Scalar.subi v (voffW c)) = a
  generalize (Scalar.subi v (voffW c)).slt 8192#32 = b
  cases a <;> cases b <;> rfl

/-- The guard of a gather holds exactly when the id names a row of the device's part. -/
theorem cond1_iff (c : Dev nD) (v : BitVec 32) : k0_cond1 c v = 1#1 ↔ rowOf c v < 8192 := by
  show Scalar.cmpi .ne (Scalar.extui (inW c v) : BitVec 32) 0#32 = 1#1 ↔ _
  rw [inW_eq]
  by_cases h : rowOf c v < 8192
  · simp only [h, decide_true, iff_true]; decide
  · simp only [h, decide_false, iff_false]; decide

theorem extui_inW (c : Dev nD) (v : BitVec 32) : (Scalar.extui (inW c v) : BitVec 32) = if rowOf c v < 8192 then 1#32 else 0#32 := by
  rw [inW_eq]
  by_cases h : rowOf c v < 8192
  · rw [if_pos h, decide_eq_true h]; decide
  · rw [if_neg h, decide_eq_false h]; decide

theorem off3_eq (c : Dev nD) (v : BitVec 32) : k0_off3 c v = ![rowOf c v, 0] := rfl

/-- A gather's row lies in the table. -/
theorem chk1 (c : Dev nD) (v : BitVec 32) : k0_chk1 c v := by
  intro h a
  have := (cond1_iff c v).mp h
  rw [off3_eq]
  fin_cases a <;> simp [S1x1024, S8192x1024] <;> omega

/-- The mask of one row, as the kernel computes it from the id alone. -/
theorem mask_eq (c : Dev nD) (v : BitVec 32) :
    ((voffW c).sle v && v.slt (Scalar.addi (voffW c) 8192#32)) = decide (rowOf c v < 8192) := by
  have hv := v.isLt
  have hc : c.val / 2 = 0 ∨ c.val / 2 = 1 := by have := c.isLt; have h4 : nD = 4 := rfl; omega
  have hi : v.toInt = if 2 * v.toNat < 2 ^ 32 then (v.toNat : Int) else (v.toNat : Int) - (2 ^ 32 : Nat) := BitVec.toInt_eq_toNat_cond v
  unfold rowOf
  rw [voff_cases]
  rw [BitVec.sle, BitVec.slt, Bool.eq_iff_iff]
  simp only [Bool.and_eq_true, decide_eq_true_eq]
  rcases hc with h | h <;> rw [h]
  · rw [show (BitVec.ofNat 32 (8192 * 0)).toInt = 0 from rfl,
      show (Scalar.addi (BitVec.ofNat 32 (8192 * 0)) 8192#32 : BitVec 32).toInt = 8192 from rfl,
      show (Scalar.subi v (BitVec.ofNat 32 (8192 * 0)) : BitVec 32) = v from BitVec.sub_zero v]
    split at hi <;> rw [hi] <;> omega
  · rw [show (BitVec.ofNat 32 (8192 * 1)).toInt = 8192 from rfl,
      show (Scalar.addi (BitVec.ofNat 32 (8192 * 1)) 8192#32 : BitVec 32).toInt = 16384 from rfl,
      show (Scalar.subi v (BitVec.ofNat 32 (8192 * 1)) : BitVec 32).toNat = (2 ^ 32 - 8192 + v.toNat) % 2 ^ 32 from BitVec.toNat_sub v 8192#32]
    split at hi <;> rw [hi] <;> omega

/-- A count's drain makes as many waits as the count. -/
theorem drain_words : ∀ n : Fin 65, k0_chk3 (BitVec.ofNat 32 n.val) ∧ (k0_t3_loop (BitVec.ofNat 32 n.val)).trips = n.val
    ∧ (k0_t4_loop (BitVec.ofNat 32 n.val)).trips = 0 := by
  have h : ∀ n : Fin 65, ((k0_t3_loop (BitVec.ofNat 32 n.val)).OK ∧ (k0_t4_loop (BitVec.ofNat 32 n.val)).OK)
      ∧ (k0_t3_loop (BitVec.ofNat 32 n.val)).trips = n.val ∧ (k0_t4_loop (BitVec.ofNat 32 n.val)).trips = 0 := by decide +kernel
  exact h

end Cert.KernelIdeal.Run
-- ==== Proof.Gather.lean ====
/- The row gathers of one chunk: which trips issue one, where the rows lie, and the issue and the drain run for a symbolic
   device and a symbolic chunk. -/
module

public import proofs.«01_k».proof.Proof.Words
public import Idealize.ShloMosaic.Lib.Pipeline.Value
public import Idealize.ShloMosaic.Lib.Pipeline.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : In F) (K : GSem nD τ sig → ℕ)

/-! ## Which trips gather -/

/-- The trips of a chunk. -/
abbrev T : ℕ := k0_t1_loop.trips

/-- Whether trip `s` of chunk `k` gathers a row. -/
def hit (c : Dev nD) (k : Fin 8) (s : Fin T) : Bool := decide (rowOf c (idAt I c k s) < 8192)
theorem hit_iff (c : Dev nD) (k : Fin 8) (s : Fin T) : hit I c k s = true ↔ rowOf c (idAt I c k s) < 8192 := decide_eq_true_iff

/-- The trips below `t` that gather, in order. -/
def hits (c : Dev nD) (k : Fin 8) (t : ℕ) : List (Fin T) := ((List.finRange T).take t).filter (hit I c k)
/-- All of them. -/
def allHits (c : Dev nD) (k : Fin 8) : List (Fin T) := (List.finRange T).filter (hit I c k)
/-- How many they are. -/
def cnt (c : Dev nD) (k : Fin 8) (t : ℕ) : ℕ := (hits I c k t).length

theorem cnt_zero (c : Dev nD) (k : Fin 8) : cnt I c k 0 = 0 := by unfold cnt hits; rw [List.take_zero]; rfl
theorem hits_end (c : Dev nD) (k : Fin 8) : hits I c k T = allHits I c k := by
  unfold hits allHits; rw [List.take_of_length_le (by rw [List.length_finRange])]
theorem take_succ (t : Fin T) : (List.finRange T).take (t.val + 1) = (List.finRange T).take t.val ++ [t] := by
  rw [List.take_add_one]
  congr 1
  rw [List.getElem?_eq_getElem (by rw [List.length_finRange]; exact t.isLt), List.getElem_finRange]
  rfl
theorem hits_succ (c : Dev nD) (k : Fin 8) (t : Fin T) :
    hits I c k (t.val + 1) = hits I c k t.val ++ (if hit I c k t then [t] else []) := by
  unfold hits
  rw [take_succ, List.filter_append]
  congr 1
  rw [List.filter_singleton]
  cases hit I c k t <;> rfl
theorem cnt_succ (c : Dev nD) (k : Fin 8) (t : Fin T) : cnt I c k (t.val + 1) = cnt I c k t.val + (if hit I c k t then 1 else 0) := by
  unfold cnt
  rw [hits_succ, List.length_append]
  cases hit I c k t <;> rfl
theorem cnt_le (c : Dev nD) (k : Fin 8) : cnt I c k T ≤ 64 := by
  unfold cnt hits
  refine (List.length_filter_le _ _).trans ?_
  rw [List.length_take, List.length_finRange, Nat.min_self]
  exact trips64.le
/-- The gather trip `t` issues is the one numbered by the gathers before it. -/
theorem allHits_get (c : Dev nD) (k : Fin 8) (t : Fin T) (h : hit I c k t = true) :
    ∃ hj : cnt I c k t.val < (allHits I c k).length, (allHits I c k)[cnt I c k t.val] = t := by
  have e : allHits I c k = hits I c k t.val ++ t :: ((List.finRange T).drop (t.val + 1)).filter (hit I c k) := by
    have := List.take_append_drop (t.val + 1) (List.finRange T)
    unfold allHits
    rw [← this, List.filter_append]
    rw [show (List.filter (hit I c k) (List.take (t.val + 1) (List.finRange T))) = hits I c k (t.val + 1) from rfl, hits_succ, if_pos h,
      List.append_assoc, List.singleton_append, this]
  have hj : cnt I c k t.val < (allHits I c k).length := by
    rw [e, List.length_append, List.length_cons]; unfold cnt; omega
  refine ⟨hj, ?_⟩
  have : (hits I c k t.val ++ t :: ((List.finRange T).drop (t.val + 1)).filter (hit I c k))[cnt I c k t.val]? = some t := by
    unfold cnt
    rw [List.getElem?_append_right (Nat.le_refl _), Nat.sub_self]; rfl
  rw [← e, List.getElem?_eq_getElem hj] at this
  exact Option.some.inj this

section
variable {A : Type} {M : Type} [URA M]
theorem bigSepL_map {B : Type} (f : A → B) (Φ : B → sProp M) : ∀ l : List A, bigSepL (l.map f) Φ = bigSepL l fun a => Φ (f a)
  | [] => rfl
  | [a] => rfl
  | a :: b :: l => by
    show BI.sep (Φ (f a)) (bigSepL ((b :: l).map f) Φ) = BI.sep (Φ (f a)) _
    rw [bigSepL_map f Φ (b :: l)]
/-- What is held of a list's entries by number is held of the list's entries. -/
theorem bigSep_get [DecidableEq A] (l : List A) (hl : l.Nodup) (Φ : A → sProp M) :
    bigSep Finset.univ (fun j : Fin l.length => Φ l[j.val]) = bigSep l.toFinset Φ := by
  rw [bigSep_eq_bigSepL l hl, bigSep_univ_eq_bigSepL (List.finRange l.length) (by ext; simp) (List.nodup_finRange _)]
  rw [← bigSepL_map (fun j : Fin l.length => l[j.val]) Φ]
  congr 1
  exact List.map_getElem_finRange l
end

/-! ## Where the rows lie -/

theorem mem_chR (k : Fin 8) (i : S512x1024.Idx) : i ∈ (chR k).set ↔ 64 * k.val ≤ (i 0).val ∧ (i 0).val < 64 * k.val + 64 := by
  rw [Rect.mem_set_unit, Fin.forall_fin_two]
  have h1 : (i 1).val < 1024 := (i 1).isLt
  exact ⟨fun h => h.1, fun h => ⟨h, Nat.zero_le _, by show (i 1).val < 0 + 1024; omega⟩⟩
/-- The rectangle of row `s` of chunk `k` of the stage. -/
abbrev stR (k : Fin 8) (s : Fin T) : Rect S512x1024 := Rect.unit (s := S512x1024) (stOff k s) S1x1024.size (stOff_inb k s)
theorem set_stRow (k : Fin 8) (s : Fin T) : (stRow k s).view.set = (stR k s).set := View.set_slice_whole cc0_scratch0 (stR k s)
theorem set_stC (k : Fin 8) : (stC k).view.set = (chR k).set := View.set_slice_whole cc0_scratch0 (chR k)
theorem mem_stR (k : Fin 8) (s : Fin T) (i : S512x1024.Idx) : i ∈ (stR k s).set ↔ (i 0).val = 64 * k.val + s.val := by
  rw [Rect.mem_set_unit, Fin.forall_fin_two, stOff_eq]
  have h1 : (i 1).val < 1024 := (i 1).isLt
  show (64 * k.val + s.val ≤ (i 0).val ∧ (i 0).val < 64 * k.val + s.val + 1) ∧ (0 ≤ (i 1).val ∧ (i 1).val < 0 + 1024) ↔ _
  omega
theorem mem_stRow (k : Fin 8) (s : Fin T) (i : S512x1024.Idx) : i ∈ (stRow k s).view.set ↔ (i 0).val = 64 * k.val + s.val := by
  rw [set_stRow]; exact mem_stR k s i

theorem stRow_disj (k : Fin 8) (s s' : Fin T) (h : s ≠ s') : Disjoint (stRow k s).view.set (stRow k s').view.set := by
  rw [Finset.disjoint_left]
  intro i hi hi'
  have h1 := (mem_stRow k s i).mp hi
  have h2 := (mem_stRow k s' i).mp hi'
  exact h (Fin.ext (by omega))
theorem stRow_cover (k : Fin 8) : Finset.univ.biUnion (fun s => (stRow k s).view.set) = (stC k).view.set := by
  ext i
  rw [Finset.mem_biUnion]
  have e : i ∈ (stC k).view.set ↔ i ∈ (chR k).set := by rw [set_stC]
  refine Iff.trans ?_ (e.trans (mem_chR k i)).symm
  constructor
  · rintro ⟨s, -, h⟩
    have := (mem_stRow k s i).mp h
    have hs : s.val < 64 := trips64 ▸ s.isLt
    omega
  · rintro ⟨h, h'⟩
    have hs : (i 0).val - 64 * k.val < T := by rw [show T = 64 from trips64]; omega
    exact ⟨⟨_, hs⟩, Finset.mem_univ _, (mem_stRow k _ i).mpr (by show _ = 64 * k.val + ((i 0).val - 64 * k.val); omega)⟩

/-- The contents of the stage after the gathers of chunk `k`: the rows gathered, over what was there. -/
def gst (c : Dev nD) (k : Fin 8) (f0 : S512x1024.Idx → Elt F .f32) : S512x1024.Idx → Elt F .f32 := fun i =>
  if hit I c k ⟨(i 0).val % 64, trips64.symm ▸ Nat.mod_lt _ (by decide)⟩ then cat (G I c) i else f0 i

/-- The row of an index, in the column of ids. -/
def colIx (x : S64x1024.Idx) : S64x1.Idx := fun a => match a with | 0 => x 0 | 1 => (0 : Fin 1)

/-- What is masked away is not read: two stages equal on the rows of ids of this device's give the same chunk. -/
theorem pay1_congr (c : Dev nD) (ids : Vec F S64x1 .i32) (a b : Vec F S64x1024 .f32)
    (h : ∀ x : S64x1024.Idx, rowOf c (ids (colIx x)) < 8192 → a x = b x) :
    k0_pay1 (voffW c) ids a = k0_pay1 (voffW c) ids b := by
  unfold k0_pay1
  dsimp only
  rw [shapeCast_self, shapeCast_self, shapeCast_self, shapeCast_self]
  congr 1
  funext x
  show Scalar.select _ (a x) _ = Scalar.select _ (b x) _
  have e : broadcastTo S64x1024 (andi (cmpi .sge ids (broadcast S64x1 (voffW c)))
      (cmpi .slt ids (broadcast S64x1 (Scalar.addi (voffW c) 8192#32)))) broadcasts_S64x1_S64x1024 x
      = BitVec.ofBool (decide (rowOf c (ids (colIx x)) < 8192)) := by
    refine (broadcastTo_apply _ _ x (colIx x) ?_).trans ?_
    · intro a; fin_cases a <;> rfl
    rw [← mask_eq]
    show BitVec.ofBool ((voffW c).sle (ids (colIx x))) &&& BitVec.ofBool ((ids (colIx x)).slt (Scalar.addi (voffW c) 8192#32)) = _
    generalize (voffW c).sle (ids (colIx x)) = p
    generalize (ids (colIx x)).slt (Scalar.addi (voffW c) 8192#32) = q
    cases p <;> cases q <;> rfl
  rw [e]
  by_cases hx : rowOf c (ids (colIx x)) < 8192
  · rw [h x hx]
  · rw [decide_eq_false hx]; rfl

theorem idcAt_eq (c : Dev nD) (k : Fin 8) (x : S64x1024.Idx) :
    idcAt I c k (colIx x) = idAt I c k ⟨(x 0).val, lt_of_lt_of_eq (x 0).isLt trips64.symm⟩ := by
  unfold idcAt idAt
  show I.idc c ((idcR c k).emb (colIx x)) = _
  rw [I.col]
  congr 2
  refine Fin.ext ?_
  show idcOff c k 0 + 1 * (x 0).val = 512 * (c.val % 2) + 64 * k.val + (x 0).val
  rw [idcOff_eq]
  show 512 * (c.val % 2) + 64 * k.val + 1 * (x 0).val = _
  omega

/-- The chunk sent is the same whatever the stage held where no row was gathered. -/
theorem pay1_gst (c : Dev nD) (k : Fin 8) (f0 : S512x1024.Idx → Elt F .f32) :
    k0_pay1 (voffW c) (idcAt I c k) ((stC k).view.read (Elt F) (gst I c k f0)) = X I c k := by
  refine pay1_congr c _ _ _ fun x hx => ?_
  rw [idcAt_eq] at hx
  show gst I c k f0 ((chR k).emb x) = G I c k x
  have hx0 : (x 0).val < 64 := (x 0).isLt
  have h0 : (((chR k).emb x) 0).val % 64 = (x 0).val := by
    show (64 * k.val + 1 * (x 0).val) % 64 = _; omega
  unfold gst
  rw [if_pos, cat_emb]
  rw [hit_iff]
  have e : (⟨(((chR k).emb x) 0).val % 64, trips64.symm ▸ Nat.mod_lt _ (by decide)⟩ : Fin T) = ⟨(x 0).val, lt_of_lt_of_eq (x 0).isLt trips64.symm⟩ := Fin.ext h0
  rw [e]
  exact hx

/-! ## What is held while gathering -/

/-- The row of the table an id names. -/
abbrev tabR (c : Dev nD) (v : BitVec 32) (h : rowOf c v < 8192) : Memref sig .tc .hbm S1x1024 .f32 :=
  tabRow c v (chk1 c v) ((cond1_iff c v).mpr h)
/-- The share of the table chunk `k` reads with. -/
abbrev qCh (k : Fin 8) : PosShare TreeShare := Transfers.shareTokN fullShare k.val
/-- The share trip `s` of it reads with. -/
abbrev qTr (k : Fin 8) (s : Fin T) : PosShare TreeShare := Transfers.shareTokN (qCh k) s.val

variable (f0 : S512x1024.Idx → Elt F .f32)

/-- Trip `s` before its gather: its row of the stage, and its share of the table. -/
def keep (c : Dev nD) (k : Fin 8) (s : Fin T) : sProp (AM F) :=
  iprop(at_ c (stRow k s) fullShare f0 ∗ at_ c mTab (qTr k s) (I.tab c))
/-- What the gather of trip `s` brings: the row written, and the row read. -/
def deliv (c : Dev nD) (k : Fin 8) (s : Fin T) : sProp (AM F) :=
  if h : rowOf c (idAt I c k s) < 8192 then
    iprop(at_ c (stRow k s) fullShare (gst I c k f0) ∗ at_ c (tabR c (idAt I c k s) h) (qTr k s) (I.tab c))
  else iprop(⌜True⌝)
instance deliv_storable (c : Dev nD) (k : Fin 8) (s : Fin T) : BI.Storable (upEmb : UEmb _ (AM F)) (deliv I f0 c k s) := by
  unfold deliv; split <;> infer_instance
/-- What is left of trip `s` when its gather, if it has one, is issued. -/
def left (c : Dev nD) (k : Fin 8) (s : Fin T) : sProp (AM F) :=
  if h : rowOf c (idAt I c k s) < 8192 then
    (mTab.view.loc (c : Thread nD τ) ↦[mTab.view.set \ (tabR c (idAt I c k s) h).view.set]{qTr k s} I.tab c)
  else keep I f0 c k s
/-- Trip `s` after its gather. -/
def back (c : Dev nD) (k : Fin 8) (s : Fin T) : sProp (AM F) :=
  iprop(at_ c (stRow k s) fullShare (gst I c k f0) ∗ at_ c mTab (qTr k s) (I.tab c))

theorem tabR_subset (c : Dev nD) (v : BitVec 32) (h : rowOf c v < 8192) : (tabR c v h).view.set ⊆ mTab.view.set :=
  View.set_slice_subset mTab.view _

theorem gst_row (c : Dev nD) (k : Fin 8) (s : Fin T) (i : S512x1024.Idx) (hi : i ∈ (stRow k s).view.set) :
    gst I c k f0 i = if hit I c k s then cat (G I c) i else f0 i := by
  have h0 := (mem_stRow k s i).mp hi
  have hs : s.val < 64 := trips64 ▸ s.isLt
  unfold gst
  rw [show (⟨(i 0).val % 64, trips64.symm ▸ Nat.mod_lt _ (by decide)⟩ : Fin T) = s from Fin.ext (by show (i 0).val % 64 = s.val; omega)]

theorem back_of_not (c : Dev nD) (k : Fin 8) (s : Fin T) (h : ¬ rowOf c (idAt I c k s) < 8192) : left I f0 c k s ⊢ back I f0 c k s := by
  unfold left back keep
  rw [dif_neg h]
  iintro ⟨H, Ht⟩
  isplitl [H]
  · iapply (at_eqOn c (stRow k s) fullShare (f := f0) (g := gst I c k f0) fun i hi => by
      rw [gst_row I f0 c k s i hi, if_neg (by rw [hit_iff]; exact h)]) $$ H
  iexact Ht
theorem back_of_hit (c : Dev nD) (k : Fin 8) (s : Fin T) (h : rowOf c (idAt I c k s) < 8192) :
    iprop(left I f0 c k s ∗ deliv I f0 c k s) ⊢ back I f0 c k s := by
  unfold left back deliv
  rw [dif_pos h, dif_pos h]
  iintro ⟨H, Hr, Ht⟩
  isplitl [Hr]; · iexact Hr
  iapply (pointsTo_split_subset (tabR_subset c _ h)).2
  isplitl [Ht] <;> iassumption

/-- A gathered row is, on the stage's row, the row the id names. -/
theorem row_write (c : Dev nD) (k : Fin 8) (s : Fin T) (h : rowOf c (idAt I c k s) < 8192) :
    ∀ i ∈ (stRow k s).view.set, (stRow k s).view.write (Elt F) f0 ((tabR c (idAt I c k s) h).view.read (Elt F) (I.tab c)) Finset.univ i
      = gst I c k f0 i := by
  refine write_eqOn (stRow k s).view f0 _ _ (funext fun x => ?_)
  have hmem : (stR k s).emb x ∈ (stRow k s).view.set := (stRow k s).view.emb_mem_set x
  show gst I c k f0 ((stR k s).emb x) = _
  rw [gst_row I f0 c k s _ hmem, if_pos ((hit_iff I c k s).mpr h)]
  have hs : s.val < 64 := trips64 ▸ s.isLt
  have hx : (x 0).val = 0 := by have : (x 0).val < 1 := (x 0).isLt; omega
  have e : (stR k s).emb x = (chR k).emb (ix2 (n := 64) (m := 1024) ⟨s.val, hs⟩ (x 1)) := by
    funext a
    refine Fin.ext ?_
    fin_cases a
    · show stOff k s 0 + 1 * (x 0).val = 64 * k.val + 1 * s.val
      rw [stOff_eq, hx]
      show 64 * k.val + s.val + 1 * 0 = _
      omega
    · show stOff k s 1 + 1 * (x 1).val = 0 + 1 * (x 1).val
      rw [stOff_eq]; rfl
  rw [e, cat_emb]
  unfold G
  refine (dif_pos (show rowOf c (idAt I c k ⟨s.val, trips64.symm ▸ hs⟩) < 8192 from h)).trans ?_
  show I.tab c _ = I.tab c _
  congr 1
  funext a
  refine Fin.ext ?_
  fin_cases a
  · show rowOf c (idAt I c k s) = k0_off3 c (idAt I c k s) 0 + 1 * (x 0).val
    rw [off3_eq, hx]; rfl
  · show (x 1).val = k0_off3 c (idAt I c k s) 1 + 1 * (x 1).val
    rw [off3_eq]; show _ = 0 + 1 * (x 1).val; omega

end Cert.KernelIdeal.Run
-- ==== Proof.Issue.lean ====
/- The issue of a chunk's row gathers and their drain, run for a symbolic device and a symbolic chunk. -/
module

public import proofs.«01_k».proof.Proof.Gather

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : In F) (K : GSem nD τ sig → ℕ) (f0 : S512x1024.Idx → Elt F .f32)

/-- The row a wait for a gather names. -/
abbrev gWait : Memref sig .tc .vmem S1x1024 .f32 :=
  mStg.slice (Rect.unit (s := S512x1024) ![0, 0] S1x1024.size inb_S512x1024_S1x1024_0_0) (fun _ => rfl)
/-- The elements a gather moves, in the semaphore's units. -/
abbrev NG : ℕ := gWait.view.dmaCredit
theorem NG_pos : 0 < NG := View.dmaCredit_pos _ (by decide)
theorem gWait_credit : gWait.view.dmaCredit = 1 * NG := by rw [Nat.one_mul]

/-- What gather `j` of chunk `k` brings. -/
def gPay (c : Dev nD) (k : Fin 8) (j : Fin (allHits I c k).length) : sProp (AM F) := deliv I f0 c k (allHits I c k)[j.val]
instance gPay_storable (c : Dev nD) (k : Fin 8) (j : Fin (allHits I c k).length) : BI.Storable (upEmb : UEmb _ (AM F)) (gPay I f0 c k j) := by
  unfold gPay; infer_instance
/-- The gathers of chunk `k`, `j` issued and `u` units waited for. -/
abbrev gB (c : Dev nD) (k : Fin 8) (j u : ℕ) : sProp (AM F) :=
  Transfers.Batch (EC (F := F)) (c : Thread nD τ) (.dma (gS k)) () NG (gPay I f0 c k) j u

/-- The trips from `t` on, and those below `t`. -/
def after (t : ℕ) : Finset (Fin T) := Finset.univ.filter fun s => t ≤ s.val
def below (t : ℕ) : Finset (Fin T) := Finset.univ.filter fun s => s.val < t
theorem after_zero : after 0 = Finset.univ := by ext s; simp [after]
theorem after_end : after T = ∅ := by ext s; simp [after]
theorem below_zero : below 0 = ∅ := by ext s; simp [below]
theorem below_end : below T = Finset.univ := by ext s; simp [below]
theorem after_step (t : Fin T) : after t.val = insert t (after (t.val + 1)) := by
  ext s; simp only [after, Finset.mem_filter, Finset.mem_univ, true_and, Finset.mem_insert, Fin.ext_iff]; omega
theorem below_step (t : Fin T) : below (t.val + 1) = insert t (below t.val) := by
  ext s; simp only [below, Finset.mem_filter, Finset.mem_univ, true_and, Finset.mem_insert, Fin.ext_iff]; omega
theorem not_after (t : Fin T) : t ∉ after (t.val + 1) := by simp [after]
theorem not_below (t : Fin T) : t ∉ below t.val := by simp [below]

theorem after_take (t : Fin T) (Φ : Fin T → sProp (AM F)) : bigSep (after t.val) Φ ⊢ iprop(Φ t ∗ bigSep (after (t.val + 1)) Φ) :=
  Entails.of_eq (by rw [after_step, bigSep_insert (not_after t)]; rfl)
theorem below_put (t : Fin T) (Φ : Fin T → sProp (AM F)) : iprop(Φ t ∗ bigSep (below t.val) Φ) ⊢ bigSep (below (t.val + 1)) Φ :=
  Entails.of_eq (by rw [below_step, bigSep_insert (not_below t)]; rfl)

/-- Before trip `t` of the issue. -/
def issInv (c : Dev nD) (k : Fin 8) (t : ℕ) (acc : BitVec 32) : sProp (AM F) :=
  iprop(⌜acc = BitVec.ofNat 32 (cnt I c k t)⌝ ∗ at_ c mIds fullShare (I.ids c) ∗ gB I f0 c k (cnt I c k t) 0
    ∗ bigSep (after t) (keep I f0 c k) ∗ bigSep (below t) (left I f0 c k))

set_option maxHeartbeats 2000000 in
/-- One trip of the issue. -/
theorem issue_trip (c : Dev nD) (k : Fin 8) (t : Fin T) (acc : BitVec 32) :
    issInv I f0 c k t.val acc ⊢ wp frame (wpE (defs₀ (F := F)) 𝒱₀ (c : Thread nD τ) none) Set.univ (issueTrip c k t acc) (issInv I f0 c k (t.val + 1)) := by
  unfold issInv
  iintro ⟨%hacc, Hids, HB, Hafter, Hbelow⟩
  ihave Ha := (after_take t (keep I f0 c k)) $$ Hafter
  icases Ha with ⟨Hkeep, Hafter⟩
  unfold issueTrip
  sl_exec
  have hr : issue_trip.sl.r I c k t = idAt I c k t := idAt_eq I c k t
  generalize issue_trip.sl.r I c k t = v at hr ⊢
  subst hr
  iapply (wp_assume 𝒱₀ (c : Thread nD τ) none Set.univ (chk1 c (idAt I c k t)))
  dsimp only
  by_cases h : rowOf c (idAt I c k t) < 8192
  · rw [dif_pos ((cond1_iff c _).mpr h)]
    have hh := (hit_iff I c k t).mpr h
    obtain ⟨hj, hget⟩ := allHits_get I c k t hh
    unfold keep
    icases Hkeep with ⟨Hrow, Htab⟩
    ihave Hs := (pointsTo_split_subset (tabR_subset c (idAt I c k t) h)).1 $$ Htab
    icases Hs with ⟨Hsrc, Hrest⟩
    simp only [Prog.lift, Prog.bind, bind, Pure.pure]
    iapply (Transfers.wp_dmaBatch EC 𝒱₀ (c : Thread nD τ) none (src := tabR c (idAt I c k t) h) (dst := stRow k t) (sm := .dma (gS k)) (q := qTr k t)
      (fs := I.tab c) (Sd := (stRow k t).view.set) (fd := f0) (D := gPay I f0 c k) (j := cnt I c k t.val) (u := 0)
      () NG rfl (Finset.Subset.refl _) hj (Nat.zero_le _)
      (by
        unfold gPay
        dsimp only
        rw [hget]
        unfold deliv
        rw [dif_pos h]
        iintro ⟨H, Ho⟩
        isplitl [H]
        · iapply (at_eqOn c (stRow k t) fullShare (row_write I f0 c k t h)) $$ H
        iexact Ho)) $$ [Hrow Hsrc HB]
    · isplitl [Hsrc]; · iexact Hsrc
      isplitl [Hrow]; · iexact Hrow
      iexact HB
    iintro HB
    rw [wp_ret]
    imodintro
    rw [cnt_succ, if_pos hh, extui_inW, if_pos h, hacc]
    isplitr
    · ipureintro
      exact (BitVec.ofNat_add _ _).symm
    isplitl [Hids]; · iexact Hids
    isplitl [HB]; · iexact HB
    isplitl [Hafter]; · iexact Hafter
    iapply (below_put t (left I f0 c k))
    isplitl [Hrest]
    · unfold left; rw [dif_pos h]; iexact Hrest
    iexact Hbelow
  · rw [dif_neg (fun e => h ((cond1_iff c _).mp e))]
    have hh : ¬ hit I c k t = true := fun e => h ((hit_iff I c k t).mp e)
    simp only [Pure.pure]
    rw [wp_ret]
    imodintro
    rw [cnt_succ, if_neg hh, extui_inW, if_neg h, hacc]
    isplitr
    · ipureintro
      exact BitVec.add_zero _
    isplitl [Hids]; · iexact Hids
    isplitl [HB]; · iexact HB
    isplitl [Hafter]; · iexact Hafter
    iapply (below_put t (left I f0 c k))
    isplitl [Hkeep]
    · unfold left; rw [dif_neg h]; iexact Hkeep
    iexact Hbelow

/-- The counter of chunk `k`. -/
abbrev cntC (k : Fin 8) : Memref sig .tc .smem S1 .i32 := mCnt.slice (cntR k) (fun _ => rfl)

/-- A set of elements, cut into pieces. -/
theorem pt_pieces {α : Type} [Fintype α] {ℓ : Loc nD τ sig} (q : PosShare TreeShare) (f : Buf (Elt F) ℓ) (S : Finset (Idx ℓ)) (R : α → Finset (Idx ℓ))
    (hd : ∀ s s', s ≠ s' → Disjoint (R s) (R s')) (hc : ∀ i, i ∈ S ↔ ∃ s, i ∈ R s) :
    (ℓ ↦[S]{q} f : sProp (AM F)) = bigSep Finset.univ fun s => ℓ ↦[R s]{q} f := by
  classical
  rw [← pointsTo_biUnion Finset.univ R (fun s _ s' _ h => hd s s' h)]
  congr 1
  ext i
  rw [hc, Finset.mem_biUnion]
  exact ⟨fun ⟨s, h⟩ => ⟨s, Finset.mem_univ _, h⟩, fun ⟨s, _, h⟩ => ⟨s, h⟩⟩

/-- A chunk of the stage is its rows. -/
theorem stage_rows (c : Dev nD) (k : Fin 8) (f : S512x1024.Idx → Elt F .f32) :
    at_ c (stC k) fullShare f = bigSep Finset.univ fun s => at_ c (stRow k s) fullShare f := by
  refine pt_pieces (ℓ := mStg.view.loc (c : Thread nD τ)) fullShare f (stC k).view.set (fun s => (stRow k s).view.set) (stRow_disj k) fun i => ?_
  rw [← stRow_cover k, Finset.mem_biUnion]
  exact ⟨fun ⟨s, _, h⟩ => ⟨s, h⟩, fun ⟨s, h⟩ => ⟨s, Finset.mem_univ _, h⟩⟩

/-- The share of the table a chunk reads with is one share for each trip, and the rest. -/
theorem tab_trips (c : Dev nD) (k : Fin 8) :
    at_ c mTab (qCh k) (I.tab c) ⊣⊢ iprop(at_ c mTab (Transfers.shareDrop (qCh k) T) (I.tab c)
      ∗ bigSep Finset.univ fun s => at_ c mTab (qTr k s) (I.tab c)) := by
  rw [Ring.bigSep_fin_eq_range T (fun s => at_ c mTab (qTr k s) (I.tab c)) (fun i => at_ c mTab (Transfers.shareTokN (qCh k) i) (I.tab c)) (fun _ _ => rfl)]
  exact Transfers.pointsTo_toks_range (qCh k) T

theorem keep_all (c : Dev nD) (k : Fin 8) :
    iprop(at_ c (stC k) fullShare f0 ∗ bigSep Finset.univ fun s => at_ c mTab (qTr k s) (I.tab c)) ⊢ bigSep Finset.univ (keep I f0 c k) := by
  rw [stage_rows]
  exact Entails.of_eq (bigSep_sep Finset.univ (fun s => at_ c (stRow k s) fullShare f0) (fun s => at_ c mTab (qTr k s) (I.tab c))).symm
theorem back_all (c : Dev nD) (k : Fin 8) :
    bigSep Finset.univ (back I f0 c k) ⊢ iprop(at_ c (stC k) fullShare (gst I c k f0) ∗ bigSep Finset.univ fun s => at_ c mTab (qTr k s) (I.tab c)) := by
  rw [stage_rows]
  exact Entails.of_eq (bigSep_sep Finset.univ (fun s => at_ c (stRow k s) fullShare (gst I c k f0)) (fun s => at_ c mTab (qTr k s) (I.tab c)))

/-- The trips that gather, each with what its gather brings, and the others, are all the trips after their gathers. -/
theorem trips_back (c : Dev nD) (k : Fin 8) :
    iprop(bigSep Finset.univ (left I f0 c k) ∗ bigSep Finset.univ (gPay I f0 c k)) ⊢ bigSep Finset.univ (back I f0 c k) := by
  have e : (allHits I c k).toFinset = Finset.univ.filter fun s => hit I c k s = true := by
    ext s; simp [allHits]
  have h1 : bigSep Finset.univ (gPay I f0 c k) = bigSep (Finset.univ.filter fun s => hit I c k s = true) (deliv I f0 c k) := by
    rw [← e]
    exact bigSep_get (allHits I c k) ((List.nodup_finRange _).filter _) (deliv I f0 c k)
  have h2 : ∀ Φ : Fin T → sProp (AM F), bigSep Finset.univ Φ
      = iprop(bigSep (Finset.univ.filter fun s => hit I c k s = true) Φ ∗ bigSep (Finset.univ.filter fun s => ¬ hit I c k s = true) Φ) := fun Φ => by
    have := bigSep_union (Φ := Φ) (Finset.disjoint_filter_filter_not (Finset.univ : Finset (Fin T)) Finset.univ (fun s => hit I c k s = true))
    rw [Finset.filter_union_filter_not_eq] at this
    exact this
  rw [h1, h2 (left I f0 c k), h2 (back I f0 c k)]
  iintro ⟨⟨Hy, Hn⟩, Hd⟩
  isplitl [Hy Hd]
  · iapply (show iprop(bigSep (Finset.univ.filter fun s => hit I c k s = true) (left I f0 c k)
        ∗ bigSep (Finset.univ.filter fun s => hit I c k s = true) (deliv I f0 c k))
        ⊢ bigSep (Finset.univ.filter fun s => hit I c k s = true) (back I f0 c k) from
      (Entails.of_eq (bigSep_sep _ (left I f0 c k) (deliv I f0 c k)).symm).trans
        (bigSep_mono fun s hs => back_of_hit I f0 c k s ((hit_iff I c k s).mp (Finset.mem_filter.mp hs).2)))
    isplitl [Hy] <;> iassumption
  · iapply (show bigSep (Finset.univ.filter fun s => ¬ hit I c k s = true) (left I f0 c k)
        ⊢ bigSep (Finset.univ.filter fun s => ¬ hit I c k s = true) (back I f0 c k) from
      bigSep_mono fun s hs => back_of_not I f0 c k s fun h => (Finset.mem_filter.mp hs).2 ((hit_iff I c k s).mpr h))
    iexact Hn

/-- Chunk `k` once its gathers are issued. -/
def issued (c : Dev nD) (k : Fin 8) : sProp (AM F) :=
  iprop(gB I f0 c k (allHits I c k).length 0 ∗ bigSep Finset.univ (left I f0 c k)
    ∗ at_ c mTab (Transfers.shareDrop (qCh k) T) (I.tab c)
    ∗ at_ c (cntC k) fullShare (fun _ => BitVec.ofNat 32 (allHits I c k).length))

set_option maxHeartbeats 2000000 in
/-- The issue of chunk `k`. -/
theorem issue_run (c : Dev nD) (k : Fin 8) (P : PR F PUnit) (Q : PUnit → sProp (AM F)) :
    iprop(at_ c mIds fullShare (I.ids c) ∗ semVal ((c : Thread nD τ), .dma (gS k)) 0
      ∗ at_ c (stC k) fullShare f0 ∗ at_ c mTab (qCh k) (I.tab c) ∗ any_ c (cntC k)
      ∗ (iprop(at_ c mIds fullShare (I.ids c) ∗ issued I f0 c k) -∗ run c P Q))
    ⊢ run c (issue c k P) Q := by
  iintro ⟨Hids, Hv, Hst, Htab, ⟨%f1, Hcnt⟩, Hk⟩
  unfold issue run
  imod (Transfers.batch_alloc' EC (c : Thread nD τ) (sm := .dma (gS k)) () NG (gPay I f0 c k) (E := Set.univ)) $$ Hv with HB
  ihave Htab := (tab_trips I c k).1 $$ Htab
  icases Htab with ⟨Hdrop, Htoks⟩
  ihave Hkeep := (keep_all I f0 c k) $$ [Hst Htoks]
  · isplitl [Hst] <;> iassumption
  iapply (Scf.wp_for_bind frame (wpE (defs₀ (F := F)) 𝒱₀ (c : Thread nD τ) none) Set.univ _ _ _ k0_t1_ok 0#32 (issueTrip c k)
    (issInv I f0 c k) (issue_trip I f0 c k)) $$ [Hids HB Hkeep]
  · unfold issInv
    rw [cnt_zero, after_zero, below_zero]
    isplitr; · ipureintro; rfl
    isplitl [Hids]; · iexact Hids
    isplitl [HB]; · iexact HB
    isplitl [Hkeep]; · iexact Hkeep
    rw [bigSep_empty]; iempintro
  iintro %acc HI
  unfold issInv
  rw [show Scf.trips k0_t1_loop.lb k0_t1_loop.ub k0_t1_loop.st = T from rfl, after_end, below_end]
  icases HI with ⟨%hacc, Hids, HB, -, Hleft⟩
  have hc : cnt I c k T = (allHits I c k).length := by unfold cnt; rw [hits_end]
  rw [hc] at hacc ⊢
  sl_exec
  have e : ∀ i ∈ (cntC k).view.set, issue_run.sl.Hcnt_w1 c k f1 acc i = BitVec.ofNat 32 (allHits I c k).length := by
    unfold issue_run.sl.Hcnt_w1
    exact write_eqOn (cntC k).view f1 (fun _ => BitVec.ofNat 32 (allHits I c k).length) _ (funext fun x => hacc.symm)
  ihave Hcnt := (at_eqOn c (cntC k) fullShare e) $$ Hcnt
  iapply Hk
  isplitl [Hids]; · iexact Hids
  unfold issued
  isplitl [HB]; · iexact HB
  isplitl [Hleft]; · iexact Hleft
  isplitl [Hdrop] <;> iassumption

theorem drain_units {n m : ℕ} (hn : n ≤ m) (t : Fin n) : t.val * NG + 1 * NG ≤ NG * m := by
  rw [Nat.mul_comm NG m, ← Nat.add_mul]
  exact Nat.mul_le_mul_right _ (Nat.succ_le_of_lt (lt_of_lt_of_le t.isLt hn))

set_option maxHeartbeats 2000000 in
/-- One wait of the drain. -/
theorem drain_trip (c : Dev nD) (k : Fin 8) (n : ℕ) (hn : n ≤ (allHits I c k).length) (j : ℕ) (t : Fin n) (acc : BitVec 32) :
    iprop(levAts L lv ∗ gB I f0 c k (allHits I c k).length (t.val * NG) ∗ ∃ W, owes (c : Thread nD τ) (ow c j 0) W)
      ⊢ wp frame (wpE (defs₀ (F := F)) 𝒱₀ (c : Thread nD τ) none) Set.univ (drainTrip k t acc)
        (fun _ => iprop(levAts L lv ∗ gB I f0 c k (allHits I c k).length ((t.val + 1) * NG) ∗ ∃ W, owes (c : Thread nD τ) (ow c j 0) W)) := by
  iintro ⟨#Hlev, HB, ⟨%W, HO⟩⟩
  unfold drainTrip gB
  have ht := t.isLt
  iapply (Transfers.wp_waitBatchMulO EC 𝒱₀ (c : Thread nD τ) none (dstw := gWait) () (N := NG) 1 gWait_credit
    (drain_units hn t)) $$ [HB HO]
  · isplitl [HB]; · iexact HB
    isplitl [HO]; · iexact HO
    iapply (mayWait c (.dma (gS k)) 0 j 0 (le_of_eq (lv_g c k ())) (.inl (by decide)) (by decide)); iexact Hlev
  rw [← Nat.add_mul]
  iintro ⟨HB, HO⟩
  simp only [Prog.bind]
  rw [show (Pure.pure 0#32 : PR F (BitVec 32)) = .ret 0#32 from rfl, wp_ret]
  imodintro
  isplitr; · iexact Hlev
  isplitl [HB]; · iexact HB
  iexists _; iexact HO

set_option maxHeartbeats 2000000 in
/-- The drain of chunk `k`. -/
theorem drain_run (c : Dev nD) (k : Fin 8) (j : ℕ) (P : PR F PUnit) (Q : PUnit → sProp (AM F)) (W : Waits sig Unit) :
    iprop(levAts L lv ∗ issued I f0 c k ∗ owes (c : Thread nD τ) (ow c j 0) W
      ∗ (iprop(semVal ((c : Thread nD τ), .dma (gS k)) 0 ∗ at_ c (stC k) fullShare (gst I c k f0)
          ∗ at_ c mTab (qCh k) (I.tab c) ∗ any_ c (cntC k) ∗ ∃ W', owes (c : Thread nD τ) (ow c j 0) W') -∗ run c P Q))
    ⊢ run c (drain k P) Q := by
  unfold issued
  iintro ⟨#Hlev, ⟨HB, Hleft, Hdrop, Hcnt⟩, HO, Hk⟩
  unfold drain run
  sl_exec
  have hr : drain_run.sl.r I c k = BitVec.ofNat 32 (allHits I c k).length := rfl
  generalize drain_run.sl.r I c k = v at hr ⊢
  subst hr
  have hc : cnt I c k T = (allHits I c k).length := by unfold cnt; rw [hits_end]
  have hle : (allHits I c k).length < 65 := Nat.lt_succ_of_le (hc ▸ cnt_le I c k)
  obtain ⟨-, h3, h4⟩ := drain_words ⟨(allHits I c k).length, hle⟩
  dsimp only at h3 h4
  iapply (Scf.wp_for_bind frame (wpE (defs₀ (F := F)) 𝒱₀ (c : Thread nD τ) none) Set.univ _ _ _ _ 0#32 (drainTrip k)
    (fun t _ => iprop(levAts L lv ∗ gB I f0 c k (allHits I c k).length (t * NG) ∗ ∃ W, owes (c : Thread nD τ) (ow c j 0) W))
    (drain_trip I f0 c k _ (le_of_eq h3) j)) $$ [HB HO]
  · rw [Nat.zero_mul]
    isplitr; · iexact Hlev
    isplitl [HB]; · iexact HB
    iexists _; iexact HO
  iintro %acc ⟨-, HB, HO⟩
  iapply (Scf.wp_for_bind frame (wpE (defs₀ (F := F)) 𝒱₀ (c : Thread nD τ) none) Set.univ _ _ _ _ acc (drainTrip k)
    (fun _ _ => iprop(∃ W, owes (c : Thread nD τ) (ow c j 0) W))
    (fun t _ => absurd t.isLt (by
      show ¬ t.val < (k0_t4_loop (BitVec.ofNat 32 (allHits I c k).length)).trips
      rw [h4]; exact Nat.not_lt_zero _))) $$ HO
  iintro %acc' HO
  rw [show Scf.trips (k0_t3_loop (BitVec.ofNat 32 (allHits I c k).length)).lb (k0_t3_loop (BitVec.ofNat 32 (allHits I c k).length)).ub
      (k0_t3_loop (BitVec.ofNat 32 (allHits I c k).length)).st = (allHits I c k).length from h3, Nat.mul_comm]
  imod (Transfers.batch_collect' EC (c : Thread nD τ) NG_pos) $$ HB with ⟨HD, Hv⟩
  ihave Hb := (trips_back I f0 c k) $$ [Hleft HD]
  · isplitl [Hleft] <;> iassumption
  ihave Hb := (back_all I f0 c k) $$ Hb
  icases Hb with ⟨Hst, Htoks⟩
  iapply Hk
  isplitl [Hv]; · iexact Hv
  isplitl [Hst]; · iexact Hst
  isplitl [Hdrop Htoks]
  · iapply (tab_trips I c k).2
    isplitl [Hdrop] <;> iassumption
  isplitl [Hcnt]; · iexists _; iexact Hcnt
  iexact HO

end Cert.KernelIdeal.Run
-- ==== Proof.Run.lean ====
/- The whole body's run on a symbolic device: the chunks' holdings by how far each has come, one step per phase, and the
   phases in order. -/
module

public import proofs.«01_k».proof.Proof.Issue

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : In F) (K : GSem nD τ sig → ℕ)

/-! ## What every phase may consult -/

/-- Every cell's invariant; that every barrier's round is reached, and every own cell's; the levels. -/
def recs (c : Dev nD) : sProp (AM F) :=
  iprop((bigSep Finset.univ fun d : Dev nD => inv I K (barCell d))
    ∗ (bigSep Finset.univ fun x : Dev nD × Fin 4 × Fin 8 => inv I K (cell x.1 x.2.1 x.2.2))
    ∗ (bigSep Finset.univ fun d : Dev nD => reached ER (barCell d) 0)
    ∗ (bigSep Finset.univ fun x : Fin 4 × Fin 8 => reached ER (cell c x.1 x.2) 0)
    ∗ levAts L lv)
instance recs_persistent (c : Dev nD) : BI.Persistent (recs I K c) := by unfold recs; infer_instance

theorem recs_bar (c d : Dev nD) : recs I K c ⊢ inv I K (barCell d) := by
  have h : recs I K c ⊢ bigSep Finset.univ fun d : Dev nD => inv I K (barCell d) := by
    unfold recs
    iintro ⟨H, -⟩
    iexact H
  exact h.trans (bigSep_elim (Φ := fun d : Dev nD => inv I K (barCell d)) (Finset.mem_univ d))
theorem recs_cell (c d : Dev nD) (i : Fin 4) (k : Fin 8) : recs I K c ⊢ inv I K (cell d i k) := by
  have h : recs I K c ⊢ bigSep Finset.univ fun x : Dev nD × Fin 4 × Fin 8 => inv I K (cell x.1 x.2.1 x.2.2) := by
    unfold recs
    iintro ⟨-, H, -⟩
    iexact H
  exact h.trans (bigSep_elim (Φ := fun x : Dev nD × Fin 4 × Fin 8 => inv I K (cell x.1 x.2.1 x.2.2)) (Finset.mem_univ (d, i, k)))
theorem recs_barReached (c d : Dev nD) : recs I K c ⊢ reached ER (barCell d) 0 := by
  have h : recs I K c ⊢ bigSep Finset.univ fun d : Dev nD => (reached ER (barCell d) 0 : sProp (AM F)) := by
    unfold recs
    iintro ⟨-, -, H, -⟩
    iexact H
  exact h.trans (bigSep_elim (Φ := fun d : Dev nD => (reached ER (barCell d) 0 : sProp (AM F))) (Finset.mem_univ d))
theorem recs_reached (c : Dev nD) (i : Fin 4) (k : Fin 8) : recs I K c ⊢ reached ER (cell c i k) 0 := by
  have h : recs I K c ⊢ bigSep Finset.univ fun x : Fin 4 × Fin 8 => (reached ER (cell c x.1 x.2) 0 : sProp (AM F)) := by
    unfold recs
    iintro ⟨-, -, -, H, -⟩
    iexact H
  exact h.trans (bigSep_elim (Φ := fun x : Fin 4 × Fin 8 => (reached ER (cell c x.1 x.2) 0 : sProp (AM F))) (Finset.mem_univ (i, k)))
theorem recs_lev (c : Dev nD) : recs I K c ⊢ levAts L lv := by
  unfold recs
  iintro ⟨-, -, -, -, H⟩
  iexact H

/-! ## What a chunk holds, by how far it has come -/

/-- Chunk `k`'s gather resources, at rest. -/
def cG (c : Dev nD) (k : Fin 8) : sProp (AM F) :=
  iprop(semVal ((c : Thread nD τ), .dma (gS k)) 0 ∗ any_ c (stC k) ∗ at_ c mTab (qCh k) (I.tab c) ∗ any_ c (cntC k))
/-- What its send along x needs. -/
def cX (c : Dev nD) (k : Fin 8) : sProp (AM F) :=
  iprop(any_ c (xsC k) ∗ dutyTok ER (cell c 0 k) 0 true ∗ dutyTok ER (cell (xp c) 1 k) 0 true)
/-- What its receive along x needs, with the send along y and the copy to the result that follow. -/
def cRX (c : Dev nD) (k : Fin 8) : sProp (AM F) :=
  iprop(atPos ER (cell c 1 k) 0 ∅ 0 ∗ cred (tallyAt (cell c 1 k) () N) ∗ any_ c (ysC k) ∗ any_ c (oaC k) ∗ any_ c (raC c k)
    ∗ dutyTok ER (cell c 2 k) 0 true ∗ dutyTok ER (cell (yp c) 3 k) 0 true)
/-- What its receive along y needs. -/
def cRY (c : Dev nD) (k : Fin 8) : sProp (AM F) :=
  iprop(atPos ER (cell c 3 k) 0 ∅ 0 ∗ cred (tallyAt (cell c 3 k) () N) ∗ any_ c (obC k) ∗ any_ c (rbC c k))
/-- What the ends of its sends need. -/
def cF (c : Dev nD) (k : Fin 8) : sProp (AM F) := iprop(atPos ER (cell c 0 k) 0 ∅ 0 ∗ atPos ER (cell c 2 k) 0 ∅ 0)
/-- A send along x under way. -/
def cXs (c : Dev nD) (k : Fin 8) : sProp (AM F) := iprop(at_ c (xsC k) qKept (cat (X I c)) ∗ cred (tallyAt (cell c 0 k) () N))
/-- A send along y under way. -/
def cYs (c : Dev nD) (k : Fin 8) : sProp (AM F) := iprop(at_ c (ysC k) qKept (cat (Y I c)) ∗ cred (tallyAt (cell c 2 k) () N))
/-- The receive along x over. -/
def cDX (c : Dev nD) (k : Fin 8) : sProp (AM F) := iprop(atPos ER (cell c 1 k) (0 + 1) ∅ 0 ∗ any_ c (xrC k))
/-- The receive along y over. -/
def cDY (c : Dev nD) (k : Fin 8) : sProp (AM F) := iprop(atPos ER (cell c 3 k) (0 + 1) ∅ 0 ∗ any_ c (yrC k))
/-- The sends over. -/
def cDF (c : Dev nD) (k : Fin 8) : sProp (AM F) :=
  iprop(atPos ER (cell c 0 k) (0 + 1) ∅ 0 ∗ atPos ER (cell c 2 k) (0 + 1) ∅ 0 ∗ any_ c (xsC k) ∗ any_ c (ysC k))

/-- Chunk `k`: 0 at rest, 1 its gathers issued, 2 sent along x, 3 received along x, 4 received along y, 5 its sends over. -/
def stage (c : Dev nD) (k : Fin 8) : ℕ → sProp (AM F)
  | 0 => iprop(cG I c k ∗ cX c k ∗ cRX c k ∗ cRY c k ∗ cF c k)
  | 1 => iprop((∃ f0, issued I f0 c k) ∗ cX c k ∗ cRX c k ∗ cRY c k ∗ cF c k)
  | 2 => iprop(cG I c k ∗ cXs I c k ∗ cRX c k ∗ cRY c k ∗ cF c k)
  | 3 => iprop(cG I c k ∗ cDX c k ∗ cXs I c k ∗ cYs I c k ∗ cRY c k ∗ cF c k)
  | 4 => iprop(cG I c k ∗ cDX c k ∗ cDY c k ∗ cXs I c k ∗ cYs I c k ∗ cF c k)
  | _ => iprop(cG I c k ∗ cDX c k ∗ cDY c k ∗ cDF c k)

theorem stage_0 (c : Dev nD) (k : Fin 8) : stage I c k 0 = iprop(cG I c k ∗ cX c k ∗ cRX c k ∗ cRY c k ∗ cF c k) := rfl
theorem stage_1 (c : Dev nD) (k : Fin 8) : stage I c k 1 = iprop((∃ f0, issued I f0 c k) ∗ cX c k ∗ cRX c k ∗ cRY c k ∗ cF c k) := rfl
theorem stage_2 (c : Dev nD) (k : Fin 8) : stage I c k 2 = iprop(cG I c k ∗ cXs I c k ∗ cRX c k ∗ cRY c k ∗ cF c k) := rfl
theorem stage_3 (c : Dev nD) (k : Fin 8) : stage I c k 3 = iprop(cG I c k ∗ cDX c k ∗ cXs I c k ∗ cYs I c k ∗ cRY c k ∗ cF c k) := rfl
theorem stage_4 (c : Dev nD) (k : Fin 8) : stage I c k 4 = iprop(cG I c k ∗ cDX c k ∗ cDY c k ∗ cXs I c k ∗ cYs I c k ∗ cF c k) := rfl
theorem stage_5 (c : Dev nD) (k : Fin 8) : stage I c k 5 = iprop(cG I c k ∗ cDX c k ∗ cDY c k ∗ cDF c k) := rfl

/-- The neighbours' receive buffers chunk `k` will be sent to, once the barrier is passed. -/
def farX (c : Dev nD) (k : Fin 8) : sProp (AM F) := iprop(any_ (xp c) (xrC k) ∗ reached ER (cell (xp c) 1 k) 0)
def farY (c : Dev nD) (k : Fin 8) : sProp (AM F) := iprop(any_ (yp c) (yrC k) ∗ reached ER (cell (yp c) 3 k) 0)
def far (c : Dev nD) (k : Fin 8) : Bool → ℕ → sProp (AM F)
  | false, _ => iprop(emp)
  | true, 0 => iprop(farX c k ∗ farY c k)
  | true, 1 => iprop(farX c k ∗ farY c k)
  | true, 2 => farY c k
  | true, _ => iprop(emp)

theorem far_1 (c : Dev nD) (k : Fin 8) : far c k true 1 = (iprop(farX c k ∗ farY c k) : sProp (AM F)) := rfl
theorem far_2 (c : Dev nD) (k : Fin 8) : far c k true 2 = (farY c k : sProp (AM F)) := rfl
theorem far_3 (c : Dev nD) (k : Fin 8) : far c k true 3 = (iprop(emp) : sProp (AM F)) := rfl

/-- All the chunks: chunk `k` at `σ k`, before (`b = false`) or after the barrier. -/
def chunks (c : Dev nD) (b : Bool) (σ : Fin 8 → ℕ) : sProp (AM F) :=
  bigSep Finset.univ fun k => iprop(stage I c k (σ k) ∗ far c k b (σ k))

/-- One chunk taken out, and put back at its next stage. -/
theorem chunks_step (c : Dev nD) (b : Bool) (σ : Fin 8 → ℕ) (k : Fin 8) (s s' : ℕ) (hs : σ k = s) :
    chunks I c b σ ⊢ iprop((stage I c k s ∗ far c k b s) ∗ ((stage I c k s' ∗ far c k b s') -∗ chunks I c b (Function.update σ k s'))) := by
  unfold chunks
  rw [bigSep_univ_at _ k, bigSep_univ_at (fun j => iprop(stage I c j (Function.update σ k s' j) ∗ far c j b (Function.update σ k s' j))) k,
    Function.update_self, hs]
  have e : bigSep (Finset.univ.erase k) (fun j => iprop(stage I c j (Function.update σ k s' j) ∗ far c j b (Function.update σ k s' j)))
      = bigSep (Finset.univ.erase k) (fun j => iprop(stage I c j (σ j) ∗ far c j b (σ j))) :=
    bigSep_congr fun j hj => by rw [Function.update_of_ne (Finset.ne_of_mem_erase hj)]
  rw [e]
  iintro ⟨H, Hr⟩
  isplitl [H]; · iexact H
  iintro H'
  isplitl [H'] <;> iassumption

/-- The state between phases: the chunks, the ids, the copies to the result, and what is owed. -/
def St (c : Dev nD) (b : Bool) (σ : Fin 8 → ℕ) (j u : ℕ) (O : CellTallies nD τ sig Unit) (Z : sProp (AM F)) : sProp (AM F) :=
  iprop(recs I K c ∗ chunks I c b σ ∗ at_ c mIds fullShare (I.ids c) ∗ at_ c mIdc fullShare (I.idc c) ∗ oB I c j u
    ∗ (∃ W, owes (c : Thread nD τ) O W) ∗ Z)

/-! ## One step per phase -/

variable {P : PR F PUnit} {Q : PUnit → sProp (AM F)} {Z : sProp (AM F)}

theorem issue_step (c : Dev nD) (k : Fin 8) (b : Bool) (σ : Fin 8 → ℕ) (hσ : σ k = 0) (j u : ℕ) (O : CellTallies nD τ sig Unit)
    (h : St I K c b (Function.update σ k 1) j u O Z ⊢ run c P Q) : St I K c b σ j u O Z ⊢ run c (issue c k P) Q := by
  unfold St at h ⊢
  iintro ⟨#HR, HC, Hids, Hidc, HB, HO, HZ⟩
  have hc := chunks_step I c b σ k 0 1 hσ
  rw [stage_0, stage_1] at hc
  unfold cG at hc
  ihave HC := hc $$ HC
  icases HC with ⟨⟨Hst, Hfar⟩, Hback⟩
  icases Hst with ⟨⟨Hv, ⟨%f0, Hs⟩, Ht, Hc⟩, Hrest⟩
  iapply (issue_run I f0 c k P Q)
  isplitl [Hids]; · iexact Hids
  isplitl [Hv]; · iexact Hv
  isplitl [Hs]; · iexact Hs
  isplitl [Ht]; · iexact Ht
  isplitl [Hc]; · iexact Hc
  iintro ⟨Hids, Hi⟩
  iapply h
  isplitr; · iexact HR
  isplitl [Hback Hi Hrest Hfar]
  · iapply Hback
    isplitr [Hfar]
    · isplitl [Hi]; · iexists f0; iexact Hi
      iexact Hrest
    · iapply (show far c k b 0 ⊢ far c k b 1 by cases b <;> exact .rfl)
      iexact Hfar
  isplitl [Hids]; · iexact Hids
  isplitl [Hidc]; · iexact Hidc
  isplitl [HB]; · iexact HB
  isplitl [HO] <;> iassumption

theorem ds_step (c : Dev nD) (k : Fin 8) (σ : Fin 8 → ℕ) (hσ : σ k = 1) (j u : ℕ)
    (h : St I K c true (Function.update σ k 2) j u (ow c (k.val + 1) 0) Z ⊢ run c P Q) :
    St I K c true σ j u (ow c k.val 0) Z ⊢ run c (ds c k P) Q := by
  unfold St at h ⊢
  iintro ⟨#HR, HC, Hids, Hidc, HB, ⟨%W, HO⟩, HZ⟩
  have hc := chunks_step I c true σ k 1 2 hσ
  rw [stage_1, stage_2, far_1, far_2] at hc
  unfold cX farX at hc
  ihave HC := hc $$ HC
  icases HC with ⟨⟨Hst, Hfar⟩, Hback⟩
  icases Hst with ⟨⟨%f0, Hi⟩, ⟨Hxs, Ht, Ht'⟩, Hrest⟩
  icases Hfar with ⟨⟨Hxr, Hr'⟩, Hfar⟩
  iapply (drain_run I f0 c k k.val (sendX c k P) Q W)
  isplitr; · iapply (recs_lev I K c); iexact HR
  isplitl [Hi]; · iexact Hi
  isplitl [HO]; · iexact HO
  iintro ⟨Hv, Hs, Htab, Hcnt, ⟨%W', HO⟩⟩
  iapply (sendX_run I K c k P Q W' (gst I c k f0) (pay1_gst I c k f0))
  isplitr; · iapply (recs_cell I K c c 0 k); iexact HR
  isplitr; · iapply (recs_cell I K c (xp c) 1 k); iexact HR
  isplitl [Hidc]; · iexact Hidc
  isplitl [Hs]; · iexact Hs
  isplitl [Hxs]; · iexact Hxs
  isplitl [Hxr]; · iexact Hxr
  isplitl [HO]; · iexact HO
  isplitl [Ht]; · iexact Ht
  isplitr; · iapply (recs_reached I K c 0 k); iexact HR
  isplitl [Ht']; · iexact Ht'
  isplitl [Hr']; · iexact Hr'
  iintro ⟨Hidc, Hs, Hxs, Hcr, HO⟩
  iapply h
  isplitr; · iexact HR
  isplitl [Hback Hv Hs Htab Hcnt Hxs Hcr Hrest Hfar]
  · iapply Hback
    isplitr [Hfar]
    · isplitl [Hv Hs Htab Hcnt]
      · unfold cG
        isplitl [Hv]; · iexact Hv
        isplitl [Hs]; · iexists _; iexact Hs
        isplitl [Htab] <;> iassumption
      isplitl [Hxs Hcr]
      · unfold cXs
        isplitl [Hxs] <;> iassumption
      iexact Hrest
    · iexact Hfar
  isplitl [Hids]; · iexact Hids
  isplitl [Hidc]; · iexact Hidc
  isplitl [HB]; · iexact HB
  isplitl [HO]; · iexists _; iexact HO
  iexact HZ

theorem recvX_step (c : Dev nD) (k : Fin 8) (σ : Fin 8 → ℕ) (hσ : σ k = 2)
    (h : St I K c true (Function.update σ k 3) (k.val + 1) 0 (ow c 8 (k.val + 1)) Z ⊢ run c P Q) :
    St I K c true σ k.val 0 (ow c 8 k.val) Z ⊢ run c (recvX c k P) Q := by
  unfold St at h ⊢
  iintro ⟨#HR, HC, Hids, Hidc, HB, ⟨%W, HO⟩, HZ⟩
  have hc := chunks_step I c true σ k 2 3 hσ
  rw [stage_2, stage_3, far_2, far_3] at hc
  unfold cXs cRX farY at hc
  ihave HC := hc $$ HC
  icases HC with ⟨⟨Hst, Hfar⟩, Hback⟩
  icases Hst with ⟨HG, ⟨Hxs, Hcx⟩, ⟨Hat, Hcr, Hys, Hoa, Hra, Ht, Ht'⟩, Hrest⟩
  icases Hfar with ⟨Hyr, Hr'⟩
  iapply (recvX_run I K c k P Q W)
  isplitr; · iapply (recs_cell I K c c 1 k); iexact HR
  isplitr; · iapply (recs_cell I K c c 2 k); iexact HR
  isplitr; · iapply (recs_cell I K c (yp c) 3 k); iexact HR
  isplitr; · iapply (recs_lev I K c); iexact HR
  isplitl [Hat]; · iexact Hat
  isplitl [Hcr]; · iexact Hcr
  isplitl [Hxs]; · iexact Hxs
  isplitl [Hys]; · iexact Hys
  isplitl [Hyr]; · iexact Hyr
  isplitl [Hoa]; · iexact Hoa
  isplitl [Hra]; · iexact Hra
  isplitl [HB]; · iexact HB
  isplitl [HO]; · iexact HO
  isplitl [Ht]; · iexact Ht
  isplitr; · iapply (recs_reached I K c 2 k); iexact HR
  isplitl [Ht']; · iexact Ht'
  isplitl [Hr']; · iexact Hr'
  iintro ⟨Hat, Hxr, Hxs, Hys, HB, Hcy, HO⟩
  iapply h
  isplitr; · iexact HR
  isplitl [Hback HG Hat Hxr Hxs Hcx Hys Hcy Hrest]
  · iapply Hback
    isplitl
    · isplitl [HG]; · iexact HG
      isplitl [Hat Hxr]
      · unfold cDX
        isplitl [Hat]; · iexact Hat
        iexists _; iexact Hxr
      isplitl [Hxs Hcx]
      · isplitl [Hxs] <;> iassumption
      isplitl [Hys Hcy]
      · unfold cYs
        isplitl [Hys] <;> iassumption
      iexact Hrest
    · iempintro
  isplitl [Hids]; · iexact Hids
  isplitl [Hidc]; · iexact Hidc
  isplitl [HB]; · iexact HB
  isplitl [HO]; · iexact HO
  iexact HZ

theorem recvY_step (c : Dev nD) (k : Fin 8) (σ : Fin 8 → ℕ) (hσ : σ k = 3)
    (h : St I K c true (Function.update σ k 4) (8 + k.val + 1) 0 0 Z ⊢ run c P Q) :
    St I K c true σ (8 + k.val) 0 0 Z ⊢ run c (recvY c k P) Q := by
  unfold St at h ⊢
  iintro ⟨#HR, HC, Hids, Hidc, HB, ⟨%W, HO⟩, HZ⟩
  have hc := chunks_step I c true σ k 3 4 hσ
  rw [stage_3, stage_4, show far c k true 4 = far c k true 3 from rfl] at hc
  unfold cRY at hc
  ihave HC := hc $$ HC
  icases HC with ⟨⟨Hst, Hfar⟩, Hback⟩
  icases Hst with ⟨HG, HDX, HXs, HYs, ⟨Hat, Hcr, Hob, Hrb⟩, HF⟩
  iapply (recvY_run I K c k P Q W)
  isplitr; · iapply (recs_cell I K c c 3 k); iexact HR
  isplitr; · iapply (recs_lev I K c); iexact HR
  isplitl [Hat]; · iexact Hat
  isplitl [Hcr]; · iexact Hcr
  isplitl [Hob]; · iexact Hob
  isplitl [Hrb]; · iexact Hrb
  isplitl [HB]; · iexact HB
  isplitl [HO]; · iexact HO
  iintro ⟨Hat, Hyr, HB, HO⟩
  iapply h
  isplitr; · iexact HR
  isplitl [Hback HG HDX Hat Hyr HXs HYs HF Hfar]
  · iapply Hback
    isplitr [Hfar]
    · isplitl [HG]; · iexact HG
      isplitl [HDX]; · iexact HDX
      isplitl [Hat Hyr]
      · unfold cDY
        isplitl [Hat]; · iexact Hat
        iexists _; iexact Hyr
      isplitl [HXs]; · iexact HXs
      isplitl [HYs] <;> iassumption
    · iexact Hfar
  isplitl [Hids]; · iexact Hids
  isplitl [Hidc]; · iexact Hidc
  isplitl [HB]; · iexact HB
  isplitl [HO]; · iexact HO
  iexact HZ

theorem finS_step (c : Dev nD) (k : Fin 8) (σ : Fin 8 → ℕ) (hσ : σ k = 4) (j u : ℕ)
    (h : St I K c true (Function.update σ k 5) j u 0 Z ⊢ run c P Q) :
    St I K c true σ j u 0 Z ⊢ run c (finS k P) Q := by
  unfold St at h ⊢
  iintro ⟨#HR, HC, Hids, Hidc, HB, ⟨%W, HO⟩, HZ⟩
  have hc := chunks_step I c true σ k 4 5 hσ
  rw [stage_4, stage_5, show far c k true 5 = far c k true 4 from rfl] at hc
  unfold cXs cYs cF at hc
  ihave HC := hc $$ HC
  icases HC with ⟨⟨Hst, Hfar⟩, Hback⟩
  icases Hst with ⟨HG, HDX, HDY, ⟨Hxs, Hcx⟩, ⟨Hys, Hcy⟩, ⟨Hatx, Haty⟩⟩
  iapply (finS_run I K c k P Q W)
  isplitr; · iapply (recs_cell I K c c 0 k); iexact HR
  isplitr; · iapply (recs_cell I K c c 2 k); iexact HR
  isplitl [Hatx]; · iexact Hatx
  isplitl [Haty]; · iexact Haty
  isplitl [Hcx]; · iexact Hcx
  isplitl [Hcy]; · iexact Hcy
  isplitl [Hxs]; · iexact Hxs
  isplitl [Hys]; · iexact Hys
  isplitl [HO]; · iexact HO
  iintro ⟨Hatx, Haty, Hxs, Hys, HO⟩
  iapply h
  isplitr; · iexact HR
  isplitl [Hback HG HDX HDY Hatx Haty Hxs Hys Hfar]
  · iapply Hback
    isplitr [Hfar]
    · isplitl [HG]; · iexact HG
      isplitl [HDX]; · iexact HDX
      isplitl [HDY]; · iexact HDY
      unfold cDF
      isplitl [Hatx]; · iexact Hatx
      isplitl [Haty]; · iexact Haty
      isplitl [Hxs] <;> iassumption
    · iexact Hfar
  isplitl [Hids]; · iexact Hids
  isplitl [Hidc]; · iexact Hidc
  isplitl [HB]; · iexact HB
  isplitl [HO]; · iexact HO
  iexact HZ

theorem finO_step (c : Dev nD) (σ : Fin 8 → ℕ) (n : ℕ) (hn : n < 16)
    (h : St I K c true σ 16 ((n + 1) * NO) 0 Z ⊢ run c P Q) :
    St I K c true σ 16 (n * NO) 0 Z ⊢ run c (finO P) Q := by
  unfold St at h ⊢
  iintro ⟨#HR, HC, Hids, Hidc, HB, ⟨%W, HO⟩, HZ⟩
  have hu : n * NO + NO ≤ NO * 16 := by rw [← Nat.succ_mul, Nat.mul_comm]; exact Nat.mul_le_mul_left _ hn
  iapply (finO_run I c (n * NO) hu P Q W)
  isplitl [HB]; · iexact HB
  isplitl [HO]; · iexact HO
  iintro ⟨HB, HO⟩
  iapply h
  isplitr; · iexact HR
  isplitl [HC]; · iexact HC
  isplitl [Hids]; · iexact Hids
  isplitl [Hidc]; · iexact Hidc
  isplitl [HB]; · rw [Nat.succ_mul]; iexact HB
  isplitl [HO]; · iexact HO
  iexact HZ

/-! ## The barrier -/

/-- What the handshake needs: the device's own receive buffers, the two duties, and the wait. -/
def shake (c : Dev nD) : sProp (AM F) :=
  iprop((bigSep Finset.univ fun k => any_ c (xrC k)) ∗ (bigSep Finset.univ fun k => any_ c (yrC k))
    ∗ dutyTok ER (barCell (xp c)) 0 true ∗ dutyTok ER (barCell (yp c)) 0 false
    ∗ atPos ER (barCell c) 0 ∅ 0 ∗ cred (tallyAt (barCell c) () 2))

theorem own_barPay (c : Dev nD) (i : Fin 4) (buf : Fin 8 → Memref sig .tc .vmem S64x1024 .bf16) :
    iprop(recs I K c ∗ bigSep Finset.univ fun k => any_ c (buf k)) ⊢ (barPay c i buf : sProp (AM F)) := by
  unfold barPay
  refine bigSep_with_persistent (R := recs I K c) (Φ := fun k => any_ c (buf k)) fun k _ => ?_
  iintro ⟨#HR, H⟩
  isplitl [H]; · iexact H
  iapply (recs_reached I K c i k); iexact HR

theorem pair {J : Type} [Fintype J] {Φ Ψ : J → sProp (AM F)} :
    iprop(bigSep Finset.univ Φ ∗ bigSep Finset.univ Ψ) ⊢ bigSep Finset.univ fun j => iprop(Φ j ∗ Ψ j) :=
  Entails.of_eq (bigSep_sep _ _ _).symm

/-- The neighbours' buffers join the chunks. -/
theorem chunks_far (c : Dev nD) (σ : Fin 8 → ℕ) (hσ : ∀ k, σ k ≤ 1) :
    iprop(chunks I c false σ ∗ barPay (xp c) 1 xrC ∗ barPay (yp c) 3 yrC) ⊢ chunks I c true σ := by
  unfold chunks
  refine BI.Entails.trans (sep_mono_right (pair (Φ := fun k => farX c k) (Ψ := fun k => farY c k))) ?_
  refine BI.Entails.trans pair (bigSep_mono fun k _ => ?_)
  have : far c k true (σ k) = (iprop(farX c k ∗ farY c k) : sProp (AM F)) := by
    have := hσ k
    generalize σ k = n at this ⊢
    match n, this with
    | 0, _ => rfl
    | 1, _ => rfl
  rw [this]
  show (iprop((stage I c k (σ k) ∗ far c k false (σ k)) ∗ farX c k ∗ farY c k) : sProp (AM F)) ⊢ iprop(stage I c k (σ k) ∗ farX c k ∗ farY c k)
  iintro ⟨⟨H, -⟩, Hf⟩
  isplitl [H] <;> iassumption

theorem barrier_step (c : Dev nD) (σ : Fin 8 → ℕ) (hσ : ∀ k, σ k ≤ 1) (j u : ℕ)
    (h : St I K c true σ j u (ow c 0 0) (iprop(atPos ER (barCell c) (0 + 1) ∅ 0 ∗ Z)) ⊢ run c P Q) :
    St I K c false σ j u (O₀ c) (iprop(shake c ∗ Z)) ⊢ run c (signals c (barWait P)) Q := by
  unfold St shake at *
  iintro ⟨#HR, HC, Hids, Hidc, HB, ⟨%W, HO⟩, ⟨Hx, Hy, Htx, Hty, Hat, Hcr⟩, HZ⟩
  iapply (signals_run I K c (barWait P) Q W)
  isplitr; · iapply (recs_bar I K c (xp c)); iexact HR
  isplitr; · iapply (recs_bar I K c (yp c)); iexact HR
  isplitl [Htx]; · iexact Htx
  isplitr; · iapply (recs_barReached I K c (xp c)); iexact HR
  isplitl [Hty]; · iexact Hty
  isplitr; · iapply (recs_barReached I K c (yp c)); iexact HR
  isplitl [Hx]
  · iapply (own_barPay I K c 1 xrC)
    isplitr; · iexact HR
    iexact Hx
  isplitl [Hy]
  · iapply (own_barPay I K c 3 yrC)
    isplitr; · iexact HR
    iexact Hy
  isplitl [HO]; · iexact HO
  iintro HO
  iapply (barWait_run I K c P Q W)
  isplitr; · iapply (recs_bar I K c c); iexact HR
  isplitr; · iapply (recs_lev I K c); iexact HR
  isplitl [Hat]; · iexact Hat
  isplitl [Hcr]; · iexact Hcr
  isplitl [HO]; · iexact HO
  iintro ⟨Hat, Hx, Hy, HO⟩
  iapply h
  isplitr; · iexact HR
  isplitl [HC Hx Hy]
  · iapply (chunks_far I c σ hσ)
    isplitl [HC]; · iexact HC
    isplitl [Hx] <;> iassumption
  isplitl [Hids]; · iexact Hids
  isplitl [Hidc]; · iexact Hidc
  isplitl [HB]; · iexact HB
  isplitl [HO]; · iexact HO
  isplitl [Hat] <;> iassumption

/-! ## The end: the counters back at zero -/

theorem close (κ : ℕ) (g : GSem nD τ sig) :
    iprop(cellInv ER (rd I) κ g ∗ atPos ER g (0 + 1) ∅ 0) ⊢ (|={Set.univ}=> semVal g 0 : sProp (AM F)) :=
  Rounds.cell_close ER (rd I) (Set.mem_univ κ) id (duties_later I g)

/-- Chunk `k` when all is over: the gather's resources, the four buffers at some contents, and the four counters at zero. -/
def over (c : Dev nD) (k : Fin 8) : sProp (AM F) :=
  iprop(cG I c k ∗ any_ c (xsC k) ∗ any_ c (xrC k) ∗ any_ c (ysC k) ∗ any_ c (yrC k)
    ∗ semVal (cell c 0 k) 0 ∗ semVal (cell c 1 k) 0 ∗ semVal (cell c 2 k) 0 ∗ semVal (cell c 3 k) 0)

theorem over_of (c : Dev nD) (k : Fin 8) :
    iprop(recs I K c ∗ stage I c k 5 ∗ far c k true 5) ⊢ (|={Set.univ}=> over I c k : sProp (AM F)) := by
  rw [stage_5]
  unfold cDX cDY cDF over
  iintro ⟨#HR, ⟨HG, ⟨H1, Hxr⟩, ⟨H3, Hyr⟩, ⟨H0, H2, Hxs, Hys⟩⟩, -⟩
  imod (close I (K (cell c 0 k)) (cell c 0 k)) $$ [H0] with H0
  · isplitr; · iapply (recs_cell I K c c 0 k); iexact HR
    iexact H0
  imod (close I (K (cell c 1 k)) (cell c 1 k)) $$ [H1] with H1
  · isplitr; · iapply (recs_cell I K c c 1 k); iexact HR
    iexact H1
  imod (close I (K (cell c 2 k)) (cell c 2 k)) $$ [H2] with H2
  · isplitr; · iapply (recs_cell I K c c 2 k); iexact HR
    iexact H2
  imod (close I (K (cell c 3 k)) (cell c 3 k)) $$ [H3] with H3
  · isplitr; · iapply (recs_cell I K c c 3 k); iexact HR
    iexact H3
  imodintro
  isplitl [HG]; · iexact HG
  isplitl [Hxs]; · iexact Hxs
  isplitl [Hxr]; · iexact Hxr
  isplitl [Hys]; · iexact Hys
  isplitl [Hyr]; · iexact Hyr
  isplitl [H0]; · iexact H0
  isplitl [H1]; · iexact H1
  isplitl [H2] <;> iassumption

/-- What the body leaves. -/
def done (c : Dev nD) : sProp (AM F) :=
  iprop((bigSep Finset.univ fun k => over I c k) ∗ at_ c mIds fullShare (I.ids c) ∗ at_ c mIdc fullShare (I.idc c)
    ∗ (bigSep Finset.univ fun i => oPay I c i) ∗ semVal ((c : Thread nD τ), .dma oS) 0 ∗ semVal (barCell c) 0
    ∗ ∃ W, owes (c : Thread nD τ) 0 W)

theorem end_step (c : Dev nD) (σ : Fin 8 → ℕ) (hσ : ∀ k, σ k = 5)
    (h : iprop(done I c ∗ Z) ⊢ Q ⟨⟩) :
    St I K c true σ 16 (16 * NO) 0 (iprop(atPos ER (barCell c) (0 + 1) ∅ 0 ∗ Z)) ⊢ run c (pure ⟨⟩) Q := by
  have hall : iprop(recs I K c ∗ chunks I c true σ) ⊢ (|={Set.univ}=> bigSep Finset.univ fun k => over I c k : sProp (AM F)) := by
    unfold chunks
    refine BI.Entails.trans (bigSep_with_persistent (R := recs I K c) (Ψ := fun k => iprop(|={Set.univ}=> over I c k)) fun k _ => ?_) (bigSep_fupd _ _)
    rw [hσ k]
    exact over_of I K c k
  unfold St done at *
  iintro ⟨#HR, HC, Hids, Hidc, HB, HO, ⟨Hat, HZ⟩⟩
  unfold run
  rw [show (Pure.pure (⟨⟩ : PUnit) : PR F _) = .ret ⟨⟩ from rfl, wp_ret]
  imod hall $$ [HC] with HC
  · isplitr; · iexact HR
    iexact HC
  rw [show 16 * NO = NO * 16 from Nat.mul_comm _ _]
  imod (Transfers.batch_collect' (EC (F := F)) (c := (c : Thread nD τ)) (sm := .dma oS) (ι := ()) NO_pos (D := oPay I c)) $$ HB with ⟨HD, Hv⟩
  imod (close I (K (barCell c)) (barCell c)) $$ [Hat] with Hb
  · isplitr; · iapply (recs_bar I K c c); iexact HR
    iexact Hat
  imodintro
  iapply h
  isplitr [HZ]
  · isplitl [HC]; · iexact HC
    isplitl [Hids]; · iexact Hids
    isplitl [Hidc]; · iexact Hidc
    isplitl [HD]; · iexact HD
    isplitl [Hv]; · iexact Hv
    isplitl [Hb]; · iexact Hb
    iexact HO
  · iexact HZ

/-! ## The phases in order -/

theorem ow_end (c : Dev nD) : ow c 8 ((7 : Fin 8).val + 1) = 0 := by
  show owFrom (xp c) 1 8 + owFrom (yp c) 3 8 = 0
  rw [owFrom_end, owFrom_end, add_zero]

theorem tail_run (c : Dev nD) (σ : Fin 8 → ℕ) (hσ : ∀ k, σ k = 2) (h : iprop(done I c ∗ Z) ⊢ Q ⟨⟩) :
    St I K c true σ 0 0 (ow c 8 0) (iprop(atPos ER (barCell c) (0 + 1) ∅ 0 ∗ Z)) ⊢ run c (tail c) Q := by
  obtain rfl : σ = fun _ => 2 := funext hσ
  unfold tail
  refine recvX_step I K c 0 _ rfl ?_
  refine recvX_step I K c 1 _ rfl ?_
  refine recvX_step I K c 2 _ rfl ?_
  refine recvX_step I K c 3 _ rfl ?_
  refine recvX_step I K c 4 _ rfl ?_
  refine recvX_step I K c 5 _ rfl ?_
  refine recvX_step I K c 6 _ rfl ?_
  refine recvX_step I K c 7 _ rfl ?_
  rw [ow_end]
  refine recvY_step I K c 0 _ rfl ?_
  refine recvY_step I K c 1 _ rfl ?_
  refine recvY_step I K c 2 _ rfl ?_
  refine recvY_step I K c 3 _ rfl ?_
  refine recvY_step I K c 4 _ rfl ?_
  refine recvY_step I K c 5 _ rfl ?_
  refine recvY_step I K c 6 _ rfl ?_
  refine recvY_step I K c 7 _ rfl ?_
  refine finS_step I K c 0 _ rfl _ _ ?_
  refine finS_step I K c 1 _ rfl _ _ ?_
  refine finS_step I K c 2 _ rfl _ _ ?_
  refine finS_step I K c 3 _ rfl _ _ ?_
  refine finS_step I K c 4 _ rfl _ _ ?_
  refine finS_step I K c 5 _ rfl _ _ ?_
  refine finS_step I K c 6 _ rfl _ _ ?_
  refine finS_step I K c 7 _ rfl _ _ ?_
  rw [show (0 : ℕ) = 0 * NO from (Nat.zero_mul _).symm]
  refine finO_step I K c _ 0 (by decide) ?_
  refine finO_step I K c _ 1 (by decide) ?_
  refine finO_step I K c _ 2 (by decide) ?_
  refine finO_step I K c _ 3 (by decide) ?_
  refine finO_step I K c _ 4 (by decide) ?_
  refine finO_step I K c _ 5 (by decide) ?_
  refine finO_step I K c _ 6 (by decide) ?_
  refine finO_step I K c _ 7 (by decide) ?_
  refine finO_step I K c _ 8 (by decide) ?_
  refine finO_step I K c _ 9 (by decide) ?_
  refine finO_step I K c _ 10 (by decide) ?_
  refine finO_step I K c _ 11 (by decide) ?_
  refine finO_step I K c _ 12 (by decide) ?_
  refine finO_step I K c _ 13 (by decide) ?_
  refine finO_step I K c _ 14 (by decide) ?_
  refine finO_step I K c _ 15 (by decide) ?_
  exact end_step I K c _ (by intro k; fin_cases k <;> rfl) h

/-- THE BODY on device `c`. -/
theorem body_run (c : Dev nD) (h : iprop(done I c ∗ Z) ⊢ Q ⟨⟩) :
    St I K c false (fun _ => 0) 0 0 (O₀ c) (iprop(shake c ∗ Z)) ⊢ run c (bodyAt c) Q := by
  unfold bodyAt
  refine issue_step I K c 0 false _ rfl _ _ _ ?_
  refine issue_step I K c 1 false _ rfl _ _ _ ?_
  refine barrier_step I K c _ (by decide) _ _ ?_
  refine ds_step I K c 0 _ rfl _ _ ?_
  refine issue_step I K c 2 true _ rfl _ _ _ ?_
  refine ds_step I K c 1 _ rfl _ _ ?_
  refine issue_step I K c 3 true _ rfl _ _ _ ?_
  refine ds_step I K c 2 _ rfl _ _ ?_
  refine issue_step I K c 4 true _ rfl _ _ _ ?_
  refine ds_step I K c 3 _ rfl _ _ ?_
  refine issue_step I K c 5 true _ rfl _ _ _ ?_
  refine ds_step I K c 4 _ rfl _ _ ?_
  refine issue_step I K c 6 true _ rfl _ _ _ ?_
  refine ds_step I K c 5 _ rfl _ _ ?_
  refine issue_step I K c 7 true _ rfl _ _ _ ?_
  refine ds_step I K c 6 _ rfl _ _ ?_
  refine ds_step I K c 7 _ rfl _ _ ?_
  exact tail_run I K c _ (by intro k; fin_cases k <;> rfl) h

end Cert.KernelIdeal.Run
-- ==== Proof.Pieces.lean ====
/- The buffers whole and in pieces: each scratch buffer is its chunks, the result its sixteen blocks of rows, the table's
   share a part per chunk and a rest; and the state the body starts from and ends in, told over the whole buffers. -/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : In F) (K : GSem nD τ sig → ℕ)

/-! ## Any buffer, by any cover -/

section Cover
variable {α : Type} [Fintype α] [DecidableEq α] {ℓ : Loc nD τ sig} (R : α → Finset (Idx ℓ))
  (hd : ∀ s s', s ≠ s' → Disjoint (R s) (R s')) (hc : ∀ i, ∃ s, i ∈ R s)

include hd hc in
/-- A buffer held whole is its pieces, at one contents. -/
theorem whole_at (q : PosShare TreeShare) (f : Buf (Elt F) ℓ) :
    (ℓ ↦{q} f : sProp (AM F)) = bigSep Finset.univ fun s => ℓ ↦[R s]{q} f :=
  pt_pieces q f Finset.univ R hd fun i => ⟨fun _ => hc i, fun _ => Finset.mem_univ i⟩

include hd hc in
/-- Held whole at some contents, it is its pieces, each at some contents, -/
theorem whole_split : (iprop(∃ f, ℓ ↦{fullShare} f) : sProp (AM F)) ⊢ bigSep Finset.univ fun s => iprop(∃ f, ℓ ↦[R s]{fullShare} f) := by
  have h (f : Buf (Elt F) ℓ) (s : α) : (ℓ ↦[R s]{fullShare} f : sProp (AM F)) ⊢ iprop(∃ f, ℓ ↦[R s]{fullShare} f) := by
    iintro H; iexists f; iexact H
  iintro ⟨%f, H⟩
  iapply ((Entails.of_eq (whole_at R hd hc fullShare f)).trans (bigSep_mono fun s _ => h f s))
  iexact H

include hd hc in
/-- and back. -/
theorem whole_join (a : α) : (bigSep Finset.univ fun s => iprop(∃ f, ℓ ↦[R s]{fullShare} f)) ⊢ (iprop(∃ f, ℓ ↦{fullShare} f) : sProp (AM F)) := by
  have h1 : (bigSep Finset.univ fun s => iprop(∃ f, ℓ ↦[R s]{fullShare} f))
      = (iprop((∃ f, ℓ ↦[R a]{fullShare} f) ∗ bigSep (Finset.univ.erase a) fun s => iprop(∃ f, ℓ ↦[R s]{fullShare} f)) : sProp (AM F)) :=
    bigSep_univ_at _ a
  rw [h1]
  iintro ⟨⟨%f, H⟩, Hr⟩
  iapply (Ring.pointsTo_blocks_join_exists R hd (by ext i; simp only [Finset.mem_biUnion, Finset.mem_univ, true_and, iff_true]; exact hc i) f)
  iapply (Entails.of_eq h1.symm)
  isplitl [H]; · iexists f; iexact H
  iexact Hr

end Cover

/-! ## The rows of each piece -/

theorem mem_oaR (k : Fin 8) (i : S1024x1024.Idx) : i ∈ (oaR k).set ↔ 64 * k.val ≤ (i 0).val ∧ (i 0).val < 64 * k.val + 64 := by
  rw [Rect.mem_set_unit, Fin.forall_fin_two]
  have h1 : (i 1).val < 1024 := (i 1).isLt
  exact ⟨fun h => h.1, fun h => ⟨h, Nat.zero_le _, by show (i 1).val < 0 + 1024; omega⟩⟩
theorem mem_obR (k : Fin 8) (i : S1024x1024.Idx) : i ∈ (obR k).set ↔ 512 + 64 * k.val ≤ (i 0).val ∧ (i 0).val < 512 + 64 * k.val + 64 := by
  rw [Rect.mem_set_unit, Fin.forall_fin_two]
  have h1 : (i 1).val < 1024 := (i 1).isLt
  exact ⟨fun h => h.1, fun h => ⟨h, Nat.zero_le _, by show (i 1).val < 0 + 1024; omega⟩⟩
theorem mem_raR (c : Dev nD) (k : Fin 8) (i : S1024x1024.Idx) :
    i ∈ (raR c k).set ↔ 512 * (c.val % 2) + 64 * k.val ≤ (i 0).val ∧ (i 0).val < 512 * (c.val % 2) + 64 * k.val + 64 := by
  rw [Rect.mem_set_unit, Fin.forall_fin_two, off33_eq]
  have h1 : (i 1).val < 1024 := (i 1).isLt
  exact ⟨fun h => h.1, fun h => ⟨h, Nat.zero_le _, by show (i 1).val < 0 + 1024; omega⟩⟩
theorem mem_rbR (c : Dev nD) (k : Fin 8) (i : S1024x1024.Idx) :
    i ∈ (rbR c k).set ↔ 512 * (1 - c.val % 2) + 64 * k.val ≤ (i 0).val ∧ (i 0).val < 512 * (1 - c.val % 2) + 64 * k.val + 64 := by
  rw [Rect.mem_set_unit, Fin.forall_fin_two, off34_eq]
  have h1 : (i 1).val < 1024 := (i 1).isLt
  exact ⟨fun h => h.1, fun h => ⟨h, Nat.zero_le _, by show (i 1).val < 0 + 1024; omega⟩⟩
theorem mem_cntR (k : Fin 8) (i : S8.Idx) : i ∈ (cntR k).set ↔ (i 0).val = k.val := by
  rw [Rect.mem_set_unit]
  constructor
  · intro h; have := h 0
    have h1 : k.val ≤ (i 0).val := this.1
    have h2 : (i 0).val < k.val + 1 := this.2
    omega
  · intro h a
    obtain rfl : a = 0 := Subsingleton.elim _ _
    exact ⟨by show k.val ≤ (i 0).val; omega, by show (i 0).val < k.val + 1; omega⟩

theorem ch_disj (k k' : Fin 8) (h : k ≠ k') : Disjoint (chR k).set (chR k').set := by
  rw [Finset.disjoint_left]; intro i hi hi'
  rw [mem_chR] at hi hi'
  exact h (Fin.ext (by omega))
theorem ch_cover (i : S512x1024.Idx) : ∃ k, i ∈ (chR k).set := by
  have h0 : (i 0).val < 512 := (i 0).isLt
  exact ⟨⟨(i 0).val / 64, by omega⟩, (mem_chR _ i).mpr ⟨by show 64 * ((i 0).val / 64) ≤ _; omega, by show _ < 64 * ((i 0).val / 64) + 64; omega⟩⟩
theorem cnt_disj (k k' : Fin 8) (h : k ≠ k') : Disjoint (cntR k).set (cntR k').set := by
  rw [Finset.disjoint_left]; intro i hi hi'
  rw [mem_cntR] at hi hi'
  exact h (Fin.ext (by omega))
theorem cnt_cover (i : S8.Idx) : ∃ k, i ∈ (cntR k).set := ⟨⟨(i 0).val, (i 0).isLt⟩, (mem_cntR _ i).mpr rfl⟩

/-- The sixteen pieces of the buffer on its way to the result; of the result, on device `c`. -/
def obfS (x : Fin 2 × Fin 8) : Finset S1024x1024.Idx := if x.1 = 0 then (oaR x.2).set else (obR x.2).set
def outS (c : Dev nD) (x : Fin 2 × Fin 8) : Finset S1024x1024.Idx := if x.1 = 0 then (raR c x.2).set else (rbR c x.2).set

theorem mem_obfS (x : Fin 2 × Fin 8) (i : S1024x1024.Idx) :
    i ∈ obfS x ↔ 512 * x.1.val + 64 * x.2.val ≤ (i 0).val ∧ (i 0).val < 512 * x.1.val + 64 * x.2.val + 64 := by
  obtain ⟨a, k⟩ := x
  fin_cases a
  · exact (mem_oaR k i).trans (by show _ ↔ 512 * 0 + 64 * k.val ≤ _ ∧ _ < 512 * 0 + 64 * k.val + 64; omega)
  · exact (mem_obR k i).trans (by show _ ↔ 512 * 1 + 64 * k.val ≤ _ ∧ _ < 512 * 1 + 64 * k.val + 64; omega)
theorem mem_outS (c : Dev nD) (x : Fin 2 × Fin 8) (i : S1024x1024.Idx) :
    i ∈ outS c x ↔ 512 * ((c.val + x.1.val) % 2) + 64 * x.2.val ≤ (i 0).val ∧ (i 0).val < 512 * ((c.val + x.1.val) % 2) + 64 * x.2.val + 64 := by
  obtain ⟨a, k⟩ := x
  fin_cases a
  · exact mem_raR c k i
  · refine (mem_rbR c k i).trans ?_
    show _ ↔ 512 * ((c.val + 1) % 2) + 64 * k.val ≤ _ ∧ _ < 512 * ((c.val + 1) % 2) + 64 * k.val + 64
    rw [show 1 - c.val % 2 = (c.val + 1) % 2 from by omega]
theorem obf_disj (x x' : Fin 2 × Fin 8) (h : x ≠ x') : Disjoint (obfS x) (obfS x') := by
  rw [Finset.disjoint_left]; intro i hi hi'
  rw [mem_obfS] at hi hi'
  have h1 := x.1.isLt; have h2 := x'.1.isLt; have h3 := x.2.isLt; have h4 := x'.2.isLt
  exact h (Prod.ext (Fin.ext (by omega)) (Fin.ext (by omega)))
theorem obf_cover (i : S1024x1024.Idx) : ∃ x, i ∈ obfS x := by
  have h0 : (i 0).val < 1024 := (i 0).isLt
  refine ⟨(⟨(i 0).val / 512, by omega⟩, ⟨(i 0).val % 512 / 64, by omega⟩), (mem_obfS _ i).mpr ?_⟩
  show 512 * ((i 0).val / 512) + 64 * ((i 0).val % 512 / 64) ≤ _ ∧ _ < 512 * ((i 0).val / 512) + 64 * ((i 0).val % 512 / 64) + 64
  omega
theorem out_disj (c : Dev nD) (x x' : Fin 2 × Fin 8) (h : x ≠ x') : Disjoint (outS c x) (outS c x') := by
  rw [Finset.disjoint_left]; intro i hi hi'
  rw [mem_outS] at hi hi'
  have h1 := x.1.isLt; have h2 := x'.1.isLt; have h3 := x.2.isLt; have h4 := x'.2.isLt
  exact h (Prod.ext (Fin.ext (by omega)) (Fin.ext (by omega)))
theorem out_cover (c : Dev nD) (i : S1024x1024.Idx) : ∃ x, i ∈ outS c x := by
  have h0 : (i 0).val < 1024 := (i 0).isLt
  refine ⟨(⟨((i 0).val / 512 + c.val) % 2, by omega⟩, ⟨(i 0).val % 512 / 64, by omega⟩), (mem_outS c _ i).mpr ?_⟩
  show 512 * ((c.val + ((i 0).val / 512 + c.val) % 2) % 2) + 64 * ((i 0).val % 512 / 64) ≤ _
    ∧ _ < 512 * ((c.val + ((i 0).val / 512 + c.val) % 2) % 2) + 64 * ((i 0).val % 512 / 64) + 64
  omega

/-- A `bigSep` over the sixteen pieces is one over the first halves and one over the second. -/
theorem halves (Φ : Fin 2 × Fin 8 → sProp (AM F)) :
    bigSep Finset.univ Φ = iprop((bigSep Finset.univ fun k : Fin 8 => Φ (0, k)) ∗ bigSep Finset.univ fun k : Fin 8 => Φ (1, k)) := by
  rw [bigSep_univ_prod]
  exact BI.bigSep_fin_two (fun a : Fin 2 => bigSep Finset.univ fun k : Fin 8 => Φ (a, k))

/-! ## Each buffer, whole and in pieces -/

/-- A buffer of the device whole, at some contents. -/
abbrev wh (c : Dev nD) (b : Ref sig .tc) : sProp (AM F) := iprop(∃ f : Buf (Elt F) ((c : Thread nD τ).loc b), ((c : Thread nD τ).loc b) ↦{fullShare} f)

theorem set_xsC (k : Fin 8) : (xsC k).view.set = (chR k).set := View.set_slice_whole cc0_scratch1 (chR k)
theorem set_xrC (k : Fin 8) : (xrC k).view.set = (chR k).set := View.set_slice_whole cc0_scratch2 (chR k)
theorem set_ysC (k : Fin 8) : (ysC k).view.set = (chR k).set := View.set_slice_whole cc0_scratch3 (chR k)
theorem set_yrC (k : Fin 8) : (yrC k).view.set = (chR k).set := View.set_slice_whole cc0_scratch4 (chR k)
theorem set_oaC (k : Fin 8) : (oaC k).view.set = (oaR k).set := View.set_slice_whole cc0_scratch5 (oaR k)
theorem set_obC (k : Fin 8) : (obC k).view.set = (obR k).set := View.set_slice_whole cc0_scratch5 (obR k)
theorem set_raC (c : Dev nD) (k : Fin 8) : (raC c k).view.set = (raR c k).set := View.set_slice_whole main_v2 (raR c k)
theorem set_rbC (c : Dev nD) (k : Fin 8) : (rbC c k).view.set = (rbR c k).set := View.set_slice_whole main_v2 (rbR c k)
theorem set_cntC (k : Fin 8) : (cntC k).view.set = (cntR k).set := View.set_slice_whole cc0_scratch6 (cntR k)

theorem any_st (c : Dev nD) (k : Fin 8) : (any_ c (stC k) : sProp (AM F))
    = iprop(∃ f : Buf (Elt F) ((c : Thread nD τ).loc cc0_scratch0), ((c : Thread nD τ).loc cc0_scratch0) ↦[(chR k).set]{fullShare} f) := by
  unfold any_ at_; rw [set_stC]
theorem any_xs (c : Dev nD) (k : Fin 8) : (any_ c (xsC k) : sProp (AM F))
    = iprop(∃ f : Buf (Elt F) ((c : Thread nD τ).loc cc0_scratch1), ((c : Thread nD τ).loc cc0_scratch1) ↦[(chR k).set]{fullShare} f) := by
  unfold any_ at_; rw [set_xsC]
theorem any_xr (c : Dev nD) (k : Fin 8) : (any_ c (xrC k) : sProp (AM F))
    = iprop(∃ f : Buf (Elt F) ((c : Thread nD τ).loc cc0_scratch2), ((c : Thread nD τ).loc cc0_scratch2) ↦[(chR k).set]{fullShare} f) := by
  unfold any_ at_; rw [set_xrC]
theorem any_ys (c : Dev nD) (k : Fin 8) : (any_ c (ysC k) : sProp (AM F))
    = iprop(∃ f : Buf (Elt F) ((c : Thread nD τ).loc cc0_scratch3), ((c : Thread nD τ).loc cc0_scratch3) ↦[(chR k).set]{fullShare} f) := by
  unfold any_ at_; rw [set_ysC]
theorem any_yr (c : Dev nD) (k : Fin 8) : (any_ c (yrC k) : sProp (AM F))
    = iprop(∃ f : Buf (Elt F) ((c : Thread nD τ).loc cc0_scratch4), ((c : Thread nD τ).loc cc0_scratch4) ↦[(chR k).set]{fullShare} f) := by
  unfold any_ at_; rw [set_yrC]
theorem any_oa (c : Dev nD) (k : Fin 8) : (any_ c (oaC k) : sProp (AM F))
    = iprop(∃ f : Buf (Elt F) ((c : Thread nD τ).loc cc0_scratch5), ((c : Thread nD τ).loc cc0_scratch5) ↦[obfS (0, k)]{fullShare} f) := by
  unfold any_ at_; rw [set_oaC]; rfl
theorem any_ob (c : Dev nD) (k : Fin 8) : (any_ c (obC k) : sProp (AM F))
    = iprop(∃ f : Buf (Elt F) ((c : Thread nD τ).loc cc0_scratch5), ((c : Thread nD τ).loc cc0_scratch5) ↦[obfS (1, k)]{fullShare} f) := by
  unfold any_ at_; rw [set_obC]; rfl
theorem any_cnt (c : Dev nD) (k : Fin 8) : (any_ c (cntC k) : sProp (AM F))
    = iprop(∃ f : Buf (Elt F) ((c : Thread nD τ).loc cc0_scratch6), ((c : Thread nD τ).loc cc0_scratch6) ↦[(cntR k).set]{fullShare} f) := by
  unfold any_ at_; rw [set_cntC]
theorem at_ra (c : Dev nD) (k : Fin 8) (f : Buf (Elt F) ((c : Thread nD τ).loc main_v2)) : (at_ c (raC c k) fullShare f : sProp (AM F))
    = ((c : Thread nD τ).loc main_v2) ↦[outS c (0, k)]{fullShare} f := by
  unfold at_; rw [set_raC]; rfl
theorem at_rb (c : Dev nD) (k : Fin 8) (f : Buf (Elt F) ((c : Thread nD τ).loc main_v2)) : (at_ c (rbC c k) fullShare f : sProp (AM F))
    = ((c : Thread nD τ).loc main_v2) ↦[outS c (1, k)]{fullShare} f := by
  unfold at_; rw [set_rbC]; rfl

theorem st_split (c : Dev nD) : wh c cc0_scratch0 ⊢ (bigSep Finset.univ fun k => any_ c (stC k) : sProp (AM F)) := by
  simp only [any_st]; exact whole_split (F := F) (ℓ := (c : Thread nD τ).loc cc0_scratch0) (fun k => (chR k).set) ch_disj ch_cover
theorem xs_split (c : Dev nD) : wh c cc0_scratch1 ⊢ (bigSep Finset.univ fun k => any_ c (xsC k) : sProp (AM F)) := by
  simp only [any_xs]; exact whole_split (F := F) (ℓ := (c : Thread nD τ).loc cc0_scratch1) (fun k => (chR k).set) ch_disj ch_cover
theorem xr_split (c : Dev nD) : wh c cc0_scratch2 ⊢ (bigSep Finset.univ fun k => any_ c (xrC k) : sProp (AM F)) := by
  simp only [any_xr]; exact whole_split (F := F) (ℓ := (c : Thread nD τ).loc cc0_scratch2) (fun k => (chR k).set) ch_disj ch_cover
theorem ys_split (c : Dev nD) : wh c cc0_scratch3 ⊢ (bigSep Finset.univ fun k => any_ c (ysC k) : sProp (AM F)) := by
  simp only [any_ys]; exact whole_split (F := F) (ℓ := (c : Thread nD τ).loc cc0_scratch3) (fun k => (chR k).set) ch_disj ch_cover
theorem yr_split (c : Dev nD) : wh c cc0_scratch4 ⊢ (bigSep Finset.univ fun k => any_ c (yrC k) : sProp (AM F)) := by
  simp only [any_yr]; exact whole_split (F := F) (ℓ := (c : Thread nD τ).loc cc0_scratch4) (fun k => (chR k).set) ch_disj ch_cover
theorem cnt_split (c : Dev nD) : wh c cc0_scratch6 ⊢ (bigSep Finset.univ fun k => any_ c (cntC k) : sProp (AM F)) := by
  simp only [any_cnt]; exact whole_split (F := F) (ℓ := (c : Thread nD τ).loc cc0_scratch6) (fun k => (cntR k).set) cnt_disj cnt_cover
theorem obf_split (c : Dev nD) : wh c cc0_scratch5 ⊢ (iprop((bigSep Finset.univ fun k => any_ c (oaC k)) ∗ bigSep Finset.univ fun k => any_ c (obC k)) : sProp (AM F)) := by
  simp only [any_oa, any_ob]
  refine BI.Entails.trans (whole_split (F := F) (ℓ := (c : Thread nD τ).loc cc0_scratch5) obfS obf_disj obf_cover) (Entails.of_eq (halves _))
theorem out_split (c : Dev nD) (f : Buf (Elt F) ((c : Thread nD τ).loc main_v2)) : (((c : Thread nD τ).loc main_v2) ↦{fullShare} f)
    = (iprop((bigSep Finset.univ fun k => at_ c (raC c k) fullShare f) ∗ bigSep Finset.univ fun k => at_ c (rbC c k) fullShare f) : sProp (AM F)) := by
  simp only [at_ra, at_rb]
  refine Eq.trans (whole_at (F := F) (ℓ := (c : Thread nD τ).loc main_v2) (outS c) (out_disj c) (out_cover c) fullShare f) (halves _)

theorem st_join (c : Dev nD) : (bigSep Finset.univ fun k => any_ c (stC k) : sProp (AM F)) ⊢ wh c cc0_scratch0 := by
  simp only [any_st]; exact whole_join (F := F) (ℓ := (c : Thread nD τ).loc cc0_scratch0) (fun k => (chR k).set) ch_disj ch_cover 0
theorem xs_join (c : Dev nD) : (bigSep Finset.univ fun k => any_ c (xsC k) : sProp (AM F)) ⊢ wh c cc0_scratch1 := by
  simp only [any_xs]; exact whole_join (F := F) (ℓ := (c : Thread nD τ).loc cc0_scratch1) (fun k => (chR k).set) ch_disj ch_cover 0
theorem xr_join (c : Dev nD) : (bigSep Finset.univ fun k => any_ c (xrC k) : sProp (AM F)) ⊢ wh c cc0_scratch2 := by
  simp only [any_xr]; exact whole_join (F := F) (ℓ := (c : Thread nD τ).loc cc0_scratch2) (fun k => (chR k).set) ch_disj ch_cover 0
theorem ys_join (c : Dev nD) : (bigSep Finset.univ fun k => any_ c (ysC k) : sProp (AM F)) ⊢ wh c cc0_scratch3 := by
  simp only [any_ys]; exact whole_join (F := F) (ℓ := (c : Thread nD τ).loc cc0_scratch3) (fun k => (chR k).set) ch_disj ch_cover 0
theorem yr_join (c : Dev nD) : (bigSep Finset.univ fun k => any_ c (yrC k) : sProp (AM F)) ⊢ wh c cc0_scratch4 := by
  simp only [any_yr]; exact whole_join (F := F) (ℓ := (c : Thread nD τ).loc cc0_scratch4) (fun k => (chR k).set) ch_disj ch_cover 0
theorem cnt_join (c : Dev nD) : (bigSep Finset.univ fun k => any_ c (cntC k) : sProp (AM F)) ⊢ wh c cc0_scratch6 := by
  simp only [any_cnt]; exact whole_join (F := F) (ℓ := (c : Thread nD τ).loc cc0_scratch6) (fun k => (cntR k).set) cnt_disj cnt_cover 0
theorem obf_join (c : Dev nD) : (iprop((bigSep Finset.univ fun k => any_ c (oaC k)) ∗ bigSep Finset.univ fun k => any_ c (obC k)) : sProp (AM F)) ⊢ wh c cc0_scratch5 := by
  simp only [any_oa, any_ob]
  exact BI.Entails.trans (Entails.of_eq (halves (fun x => iprop(∃ f : Buf (Elt F) ((c : Thread nD τ).loc cc0_scratch5), ((c : Thread nD τ).loc cc0_scratch5) ↦[obfS x]{fullShare} f))).symm) (whole_join (F := F) (ℓ := (c : Thread nD τ).loc cc0_scratch5) obfS obf_disj obf_cover (0, 0))

/-- The table at the full share is a share per chunk and a rest. -/
theorem tab_shares (c : Dev nD) (f : Buf (Elt F) ((c : Thread nD τ).loc main_arg1)) :
    (((c : Thread nD τ).loc main_arg1) ↦{fullShare} f : sProp (AM F))
      ⊣⊢ iprop((((c : Thread nD τ).loc main_arg1) ↦{Transfers.shareDrop fullShare 8} f) ∗ bigSep Finset.univ fun k : Fin 8 => at_ c mTab (qCh k) f) := by
  have e : (bigSep Finset.univ fun k : Fin 8 => at_ c mTab (qCh k) f)
      = (bigSep (Finset.range 8) fun i => ((c : Thread nD τ).loc main_arg1) ↦{Transfers.shareTokN fullShare i} f : sProp (AM F)) := by
    have hs : (mTab : Memref sig .tc .hbm S8192x1024 .f32).view.set = Finset.univ := View.set_whole _
    unfold at_; rw [hs]
    exact Ring.bigSep_fin_eq_range 8 _ (fun i => ((c : Thread nD τ).loc main_arg1) ↦{Transfers.shareTokN fullShare i} f) (fun _ _ => rfl)
  rw [e]
  exact Transfers.pointsTo_toks_range fullShare 8

/-! ## What the body starts from, told over whole buffers -/

/-- The scratch buffers whole, at some contents. -/
def scr (c : Dev nD) : sProp (AM F) :=
  iprop(wh c cc0_scratch0 ∗ wh c cc0_scratch1 ∗ wh c cc0_scratch2 ∗ wh c cc0_scratch3 ∗ wh c cc0_scratch4 ∗ wh c cc0_scratch5 ∗ wh c cc0_scratch6)

/-- What chunk `k` uses of the buffers. -/
def bufK (c : Dev nD) (k : Fin 8) : sProp (AM F) :=
  iprop(any_ c (stC k) ∗ any_ c (xsC k) ∗ any_ c (ysC k) ∗ any_ c (cntC k) ∗ any_ c (oaC k) ∗ any_ c (obC k) ∗ any_ c (raC c k) ∗ any_ c (rbC c k)
    ∗ at_ c mTab (qCh k) (I.tab c))
/-- What it uses of the protocol: its positions, its duties, the credit of its receives. -/
def linK (c : Dev nD) (k : Fin 8) : sProp (AM F) :=
  iprop((atPos ER (cell c 0 k) 0 ∅ 0 ∗ atPos ER (cell c 1 k) 0 ∅ 0 ∗ atPos ER (cell c 2 k) 0 ∅ 0 ∗ atPos ER (cell c 3 k) 0 ∅ 0)
    ∗ (dutyTok ER (cell c 0 k) 0 true ∗ dutyTok ER (cell (xp c) 1 k) 0 true ∗ dutyTok ER (cell c 2 k) 0 true ∗ dutyTok ER (cell (yp c) 3 k) 0 true)
    ∗ cred (tallyAt (cell c 1 k) () N) ∗ cred (tallyAt (cell c 3 k) () N))

theorem stage_start (c : Dev nD) (k : Fin 8) :
    iprop(bufK I c k ∗ linK c k ∗ semVal ((c : Thread nD τ), .dma (gS k)) 0) ⊢ (iprop(stage I c k 0 ∗ far c k false 0) : sProp (AM F)) := by
  rw [stage_0, show far c k false 0 = (iprop(emp) : sProp (AM F)) from rfl]
  unfold bufK linK cG cX cRX cRY cF
  iintro ⟨⟨Hst, Hxs, Hys, Hcnt, Hoa, Hob, Hra, Hrb, Htab⟩, ⟨⟨H0, H1, H2, H3⟩, ⟨T0, T1, T2, T3⟩, C1, C3⟩, Hv⟩
  isplitl
  · isplitl [Hv Hst Htab Hcnt]
    · isplitl [Hv]; · iexact Hv
      isplitl [Hst]; · iexact Hst
      isplitl [Htab] <;> iassumption
    isplitl [Hxs T0 T1]
    · isplitl [Hxs]; · iexact Hxs
      isplitl [T0] <;> iassumption
    isplitl [H1 C1 Hys Hoa Hra T2 T3]
    · isplitl [H1]; · iexact H1
      isplitl [C1]; · iexact C1
      isplitl [Hys]; · iexact Hys
      isplitl [Hoa]; · iexact Hoa
      isplitl [Hra]; · iexact Hra
      isplitl [T2] <;> iassumption
    isplitl [H3 C3 Hob Hrb]
    · isplitl [H3]; · iexact H3
      isplitl [C3]; · iexact C3
      isplitl [Hob] <;> iassumption
    isplitl [H0] <;> iassumption
  · iempintro

theorem chunks_start (c : Dev nD) :
    iprop((bigSep Finset.univ fun k => bufK I c k) ∗ (bigSep Finset.univ fun k => linK c k) ∗ bigSep Finset.univ fun k => semVal ((c : Thread nD τ), .dma (gS k)) 0)
      ⊢ (chunks I c false (fun _ => 0) : sProp (AM F)) := by
  unfold chunks
  refine BI.Entails.trans (sep_mono_right (pair (Φ := fun k => linK c k) (Ψ := fun k => semVal ((c : Thread nD τ), .dma (gS k)) 0))) ?_
  exact BI.Entails.trans pair (bigSep_mono fun k _ => stage_start I c k)

theorem mono {J : Type} [Fintype J] {Φ Ψ : J → sProp (AM F)} (h : ∀ j, Φ j ⊢ Ψ j) : bigSep Finset.univ Φ ⊢ bigSep Finset.univ Ψ :=
  bigSep_mono fun j _ => h j

/-- The buffers dealt to the chunks. -/
theorem bufs_split (c : Dev nD) :
    iprop(scr c ∗ wh c main_v2 ∗ (((c : Thread nD τ).loc main_arg1) ↦{fullShare} I.tab c))
      ⊢ (iprop((bigSep Finset.univ fun k => bufK I c k) ∗ (bigSep Finset.univ fun k => any_ c (xrC k)) ∗ (bigSep Finset.univ fun k => any_ c (yrC k))
        ∗ (((c : Thread nD τ).loc main_arg1) ↦{Transfers.shareDrop fullShare 8} I.tab c)) : sProp (AM F)) := by
  have hra (f : Buf (Elt F) ((c : Thread nD τ).loc main_v2)) (k : Fin 8) : (at_ c (raC c k) fullShare f : sProp (AM F)) ⊢ any_ c (raC c k) := by
    iintro H; iexists f; iexact H
  have hrb (f : Buf (Elt F) ((c : Thread nD τ).loc main_v2)) (k : Fin 8) : (at_ c (rbC c k) fullShare f : sProp (AM F)) ⊢ any_ c (rbC c k) := by
    iintro H; iexists f; iexact H
  unfold scr
  iintro ⟨⟨H0, H1, H2, H3, H4, H5, H6⟩, ⟨%f, Ho⟩, Ht⟩
  ihave H0 := (st_split c) $$ H0
  ihave H1 := (xs_split c) $$ H1
  ihave H2 := (xr_split c) $$ H2
  ihave H3 := (ys_split c) $$ H3
  ihave H4 := (yr_split c) $$ H4
  ihave H5 := (obf_split c) $$ H5
  icases H5 with ⟨H5, H5'⟩
  ihave H6 := (cnt_split c) $$ H6
  ihave Ho := (Entails.of_eq (out_split c f)) $$ Ho
  icases Ho with ⟨Ho, Ho'⟩
  ihave Ho := (mono (hra f)) $$ Ho
  ihave Ho' := (mono (hrb f)) $$ Ho'
  ihave Ht := (tab_shares c (I.tab c)).1 $$ Ht
  icases Ht with ⟨Hr, Ht⟩
  isplitr [H2 H4 Hr]
  · unfold bufK
    iapply pair; isplitl [H0]; · iexact H0
    iapply pair; isplitl [H1]; · iexact H1
    iapply pair; isplitl [H3]; · iexact H3
    iapply pair; isplitl [H6]; · iexact H6
    iapply pair; isplitl [H5]; · iexact H5
    iapply pair; isplitl [H5']; · iexact H5'
    iapply pair; isplitl [Ho]; · iexact Ho
    iapply pair; isplitl [Ho']; · iexact Ho'
    iexact Ht
  isplitl [H2]; · iexact H2
  isplitl [H4] <;> iassumption

/-! ## What it leaves -/

theorem unpair {J : Type} [Fintype J] {Φ Ψ : J → sProp (AM F)} :
    bigSep Finset.univ (fun j => iprop(Φ j ∗ Ψ j)) ⊢ iprop(bigSep Finset.univ Φ ∗ bigSep Finset.univ Ψ) :=
  Entails.of_eq (bigSep_sep _ _ _)

def pairE : Fin 2 × Fin 8 ≃ Fin 16 := finProdFinEquiv
theorem oPay_0 (c : Dev nD) (k : Fin 8) : oPay I c (pairE (0, k)) = oPayA I c k := by
  have h : (pairE (0, k)).val = k.val := by show k.val + 8 * 0 = _; omega
  unfold oPay
  rw [dif_pos (by rw [h]; exact k.isLt)]
  congr 1
theorem oPay_1 (c : Dev nD) (k : Fin 8) : oPay I c (pairE (1, k)) = oPayB I c k := by
  have h : (pairE (1, k)).val = k.val + 8 := by show k.val + 8 * 1 = _; omega
  unfold oPay
  rw [dif_neg (by rw [h]; omega)]
  congr 1

/-- The copies to the result, all over: the result, and the buffer they were taken from. -/
theorem out_join (c : Dev nD) :
    (bigSep Finset.univ fun i => oPay I c i) ⊢ (iprop((((c : Thread nD τ).loc main_v2) ↦{fullShare} outF I c) ∗ wh c cc0_scratch5) : sProp (AM F)) := by
  have h0 : (bigSep Finset.univ fun i => oPay I c i)
      = (iprop((bigSep Finset.univ fun k => oPayA I c k) ∗ bigSep Finset.univ fun k => oPayB I c k) : sProp (AM F)) := by
    rw [bigSep_univ_equiv pairE, halves]
    simp only [oPay_0, oPay_1]
  rw [h0]
  unfold oPayA oPayB
  iintro ⟨HA, HB⟩
  ihave HA := unpair $$ HA
  ihave HB := unpair $$ HB
  icases HA with ⟨HA, HA'⟩
  icases HB with ⟨HB, HB'⟩
  isplitl [HA HB]
  · iapply (Entails.of_eq (out_split c (outF I c)).symm)
    isplitl [HA] <;> iassumption
  · iapply (obf_join c)
    isplitl [HA'] <;> iassumption

/-- The counters of chunk `k`, at zero. -/
def semK (c : Dev nD) (k : Fin 8) : sProp (AM F) :=
  iprop(semVal ((c : Thread nD τ), .dma (gS k)) 0 ∗ semVal (cell c 0 k) 0 ∗ semVal (cell c 1 k) 0 ∗ semVal (cell c 2 k) 0 ∗ semVal (cell c 3 k) 0)

theorem over_split (c : Dev nD) (k : Fin 8) :
    over I c k ⊢ (iprop(any_ c (stC k) ∗ any_ c (xsC k) ∗ any_ c (xrC k) ∗ any_ c (ysC k) ∗ any_ c (yrC k) ∗ any_ c (cntC k)
      ∗ at_ c mTab (qCh k) (I.tab c) ∗ semK c k) : sProp (AM F)) := by
  unfold over cG semK
  iintro ⟨⟨Hv, Hst, Ht, Hc⟩, Hxs, Hxr, Hys, Hyr, Hsems⟩
  isplitl [Hst]; · iexact Hst
  isplitl [Hxs]; · iexact Hxs
  isplitl [Hxr]; · iexact Hxr
  isplitl [Hys]; · iexact Hys
  isplitl [Hyr]; · iexact Hyr
  isplitl [Hc]; · iexact Hc
  isplitl [Ht]; · iexact Ht
  isplitl [Hv] <;> iassumption

/-- THE END over whole buffers: the scratch at some contents, the result at what it must be, the table untouched, every counter at zero. -/
theorem done_join (c : Dev nD) :
    iprop(done I c ∗ (((c : Thread nD τ).loc main_arg1) ↦{Transfers.shareDrop fullShare 8} I.tab c))
      ⊢ (iprop(scr c ∗ (((c : Thread nD τ).loc main_v2) ↦{fullShare} outF I c) ∗ (((c : Thread nD τ).loc main_arg1) ↦{fullShare} I.tab c)
        ∗ at_ c mIds fullShare (I.ids c) ∗ at_ c mIdc fullShare (I.idc c)
        ∗ (bigSep Finset.univ fun k => semK c k) ∗ semVal ((c : Thread nD τ), .dma oS) 0 ∗ semVal (barCell c) 0 ∗ ∃ W, owes (c : Thread nD τ) 0 W) : sProp (AM F)) := by
  unfold done scr
  iintro ⟨⟨Hover, Hids, Hidc, HO, Hos, Hbar, Hw⟩, Hr⟩
  ihave Hover := (mono (over_split I c)) $$ Hover
  ihave H := unpair $$ Hover; icases H with ⟨H0, H⟩
  ihave H := unpair $$ H; icases H with ⟨H1, H⟩
  ihave H := unpair $$ H; icases H with ⟨H2, H⟩
  ihave H := unpair $$ H; icases H with ⟨H3, H⟩
  ihave H := unpair $$ H; icases H with ⟨H4, H⟩
  ihave H := unpair $$ H; icases H with ⟨H6, H⟩
  ihave H := unpair $$ H; icases H with ⟨Ht, Hs⟩
  ihave HO := (out_join I c) $$ HO
  icases HO with ⟨HO, H5⟩
  isplitl [H0 H1 H2 H3 H4 H5 H6]
  · isplitl [H0]; · iapply (st_join c) $$ H0
    isplitl [H1]; · iapply (xs_join c) $$ H1
    isplitl [H2]; · iapply (xr_join c) $$ H2
    isplitl [H3]; · iapply (ys_join c) $$ H3
    isplitl [H4]; · iapply (yr_join c) $$ H4
    isplitl [H5]; · iexact H5
    iapply (cnt_join c) $$ H6
  isplitl [HO]; · iexact HO
  isplitl [Hr Ht]
  · iapply (tab_shares c (I.tab c)).2
    isplitl [Hr] <;> iassumption
  isplitl [Hids]; · iexact Hids
  isplitl [Hidc]; · iexact Hidc
  isplitl [Hs]; · iexact Hs
  isplitl [Hos]; · iexact Hos
  isplitl [Hbar] <;> iassumption

end Cert.KernelIdeal.Run
-- ==== Proof.Region.lean ====
/- The one pipelined region of the program: what each device holds when it enters and when it leaves, the body's obligation
   over the staged windows, and the region as a segment of the program. -/
module

public import proofs.«01_k».proof.Proof.Pieces
public import proofs.«01_k».proof.Proof.Gen.KernelIdeal.Frame
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## The body's run over whole buffers -/

section Body
variable (I : In F) (K : GSem nD τ sig → ℕ)

/-- The part of the barrier's exchange a device holds beside its receive buffers: the two tokens it pays with, its own
    barrier's position and the credit for the two units it waits for. -/
def bars (c : Dev nD) : sProp (AM F) :=
  iprop(dutyTok ER (barCell (xp c)) 0 true ∗ dutyTok ER (barCell (yp c)) 0 false ∗ atPos ER (barCell c) 0 ∅ 0 ∗ cred (tallyAt (barCell c) () 2))

/-- What the protocol leaves device `c` once its own cells are open. -/
def opened (c : Dev nD) : sProp (AM F) :=
  iprop(recs I K c ∗ (bigSep Finset.univ fun k : Fin 8 => linK c k) ∗ bars c
    ∗ (bigSep Finset.univ fun k : Fin 8 => semVal ((c : Thread nD τ), .dma (gS k)) 0) ∗ oB I c 0 0)

/-- What the body leaves on device `c`, with anything else `P` it was given. -/
def leaves (c : Dev nD) (P : sProp (AM F)) : sProp (AM F) :=
  iprop((scr c ∗ (((c : Thread nD τ).loc main_v2) ↦{fullShare} outF I c) ∗ (((c : Thread nD τ).loc main_arg1) ↦{fullShare} I.tab c)
    ∗ at_ c mIds fullShare (I.ids c) ∗ at_ c mIdc fullShare (I.idc c) ∗ (bigSep Finset.univ fun k : Fin 8 => semK c k)
    ∗ semVal ((c : Thread nD τ), .dma oS) 0 ∗ semVal (barCell c) 0 ∗ ∃ W, owes (c : Thread nD τ) 0 W) ∗ P)

/-- The body's run from whole buffers to whole buffers: the result ends at the sum of rows the two devices along x gathered. -/
theorem body_whole (c : Dev nD) {P : sProp (AM F)} {Q : PUnit → sProp (AM F)} (h : leaves I c P ⊢ Q ⟨⟩) :
    iprop(opened I K c ∗ scr c ∗ wh c main_v2 ∗ (((c : Thread nD τ).loc main_arg1) ↦{fullShare} I.tab c)
      ∗ at_ c mIds fullShare (I.ids c) ∗ at_ c mIdc fullShare (I.idc c) ∗ (∃ W, owes (c : Thread nD τ) (O₀ c) W) ∗ P)
    ⊢ run c (bodyAt c) Q := by
  have hd : iprop(done I c ∗ ((((c : Thread nD τ).loc main_arg1) ↦{Transfers.shareDrop fullShare 8} I.tab c) ∗ P)) ⊢ Q ⟨⟩ := by
    refine BI.Entails.trans ?_ h
    show (_ : sProp (AM F)) ⊢ leaves I c P
    unfold leaves
    iintro ⟨Hd, Ht, HP⟩
    isplitr [HP]
    · iapply (done_join I c)
      isplitl [Hd] <;> iassumption
    iexact HP
  refine BI.Entails.trans ?_ (body_run I K c hd)
  show (_ : sProp (AM F)) ⊢ _
  unfold opened bars St shake
  iintro ⟨⟨#Hrecs, Hlink, ⟨Ht1, Ht2, Hat, Hcr⟩, Hg, HoB⟩, Hscr, Hout, Htab, Hids, Hidc, HO, HP⟩
  ihave H := (bufs_split I c) $$ [Hscr Hout Htab]
  · isplitl [Hscr]; · iexact Hscr
    isplitl [Hout] <;> iassumption
  icases H with ⟨Hbuf, Hxr, Hyr, Htab⟩
  isplitr; · iexact Hrecs
  isplitl [Hbuf Hlink Hg]
  · iapply (chunks_start I c)
    isplitl [Hbuf]; · iexact Hbuf
    isplitl [Hlink] <;> iassumption
  isplitl [Hids]; · iexact Hids
  isplitl [Hidc]; · iexact Hidc
  isplitl [HoB]; · iexact HoB
  isplitl [HO]; · iexact HO
  isplitl [Hxr Hyr Ht1 Ht2 Hat Hcr]
  · isplitl [Hxr]; · iexact Hxr
    isplitl [Hyr]; · iexact Hyr
    isplitl [Ht1]; · iexact Ht1
    isplitl [Ht2]; · iexact Ht2
    isplitl [Hat] <;> iassumption
  isplitl [Htab] <;> iassumption

end Body

/-! ## What the program reads, and the buffers around the region -/

variable (m : (ℓ : Loc nD τ sig) → Buf (Elt F) ℓ) (ρ : Dev nD → PrngReg)

/-- Each device's buffers at launch, and when the region is entered. -/
abbrev V₀ (c : Dev nD) : Valuation τ sig (Elt F) := fun b => m (c, b)
abbrev V₁ (c : Dev nD) : Valuation τ sig (Elt F) := StableHlo.after hostOps0 (V₀ m c)

/-- The column of ids is the host's reshape of the ids. -/
theorem V₁_col (c : Dev nD) : V₁ m c main_v1 = shapeCast S1024x1 (V₀ m c main_arg0 : Vec F S1024 .i32) shapeCasts_S1024_S1024x1 := by
  show StableHlo.after hostOps0 (V₀ m c) (Proc.devRef .tc main_v1) = _
  rw [StableHlo.after_cons, StableHlo.after_nil]
  exact StableHlo.reshape_result ..

theorem V₁_ids (c : Dev nD) : V₁ m c main_arg0 = m ((c : Thread nD τ).loc main_arg0) := V_main_arg0 m c
theorem V₁_tab (c : Dev nD) : V₁ m c main_arg1 = m ((c : Thread nD τ).loc main_arg1) := V_main_arg1 m c

/-- What the region's body reads. -/
def inM : In F where
  ids c := V₁ m c main_arg0
  idc c := V₁ m c main_v1
  tab c := V₁ m c main_arg1
  col c i := by
    rw [V₁_col, V₁_ids]
    refine shapeCast_apply _ _ i (ix1 (i 0)) ?_
    rw [Shape.rowMajor_val_one, Shape.rowMajor_val_two]
    have h1 : (i 1).val < 1 := (i 1).isLt
    show (i 0).val = (i 0).val * 1 + (i 1).val
    omega

/-- Each device's buffers when the region is left: the result written. -/
def V₂ (c : Dev nD) : Valuation τ sig (Elt F) := Function.update (V₁ m c) (Proc.devRef .tc main_v2) (outF (inM m) c)
theorem V₂_out (c : Dev nD) : V₂ m c main_v2 = outF (inM m) c := Function.update_self ..
theorem V₂_of_ne (c : Dev nD) (b : DevRef τ sig) (h : b ≠ Proc.devRef .tc main_v2) : V₂ m c b = V₁ m c b := Function.update_of_ne h ..

/-- The buffers that outlive the region: the two windows' arrays, and the two the body addresses itself. -/
abbrev arrs : Finset (DevRef τ sig) := Pipeline.arrRefs (τ := τ) spec0
abbrev rest : Finset (DevRef τ sig) := {Proc.devRef .tc main_arg1, Proc.devRef .tc main_v2}

theorem rest_eq (c : Dev nD) (W : Valuation τ sig (Elt F)) : (StableHlo.held (c : Thread nD τ) rest W : sProp (AM F))
    = iprop((((c : Thread nD τ).loc main_arg1) ↦{fullShare} W main_arg1) ∗ (((c : Thread nD τ).loc main_v2) ↦{fullShare} W main_v2)) := by
  unfold StableHlo.held
  rw [bigSep_eq_bigSepL_of_eq [Proc.devRef .tc main_arg1, Proc.devRef .tc main_v2] (by decide) (by decide)]
  rfl

/-! ## The semaphores of the body's own -/

abbrev OK : Type := Fin 8 ⊕ (Unit ⊕ (Fin 4 × Fin 8))
/-- The gathers' semaphores, the copies-out's, and the four arrays of the protocol. -/
def osem : OK → SemLoc sig
  | .inl k => .dma (gS k)
  | .inr (.inl _) => .dma oS
  | .inr (.inr x) => .dma (dS x.1 x.2)

theorem osem_facts : Pipeline.OwnSemFacts spec0 osem := by decide +kernel

theorem ownSems_eq (c : Dev nD) : (Pipeline.ownSems0 osem c : sProp (AM F))
    = iprop((bigSep Finset.univ fun k : Fin 8 => semVal ((c : Thread nD τ), .dma (gS k)) 0) ∗ semVal ((c : Thread nD τ), .dma oS) 0
      ∗ bigSep Finset.univ fun x : Fin 4 × Fin 8 => semVal (cell c x.1 x.2) 0) := by
  unfold Pipeline.ownSems0
  rw [BI.bigSep_univ_sum, BI.bigSep_univ_sum, BI.bigSep_univ_of_subsingleton ()]
  rfl

/-- The protocol's own cells, chunk by chunk. -/
theorem cells_eq (Φ : Fin 4 → Fin 8 → sProp (AM F)) : (bigSep Finset.univ fun x : Fin 4 × Fin 8 => Φ x.1 x.2)
    = bigSep Finset.univ fun k : Fin 8 => iprop(Φ 0 k ∗ Φ 1 k ∗ Φ 2 k ∗ Φ 3 k) := by
  rw [bigSep_univ_equiv (Equiv.prodComm (Fin 8) (Fin 4)) (fun x : Fin 4 × Fin 8 => Φ x.1 x.2), bigSep_univ_prod]
  refine bigSep_congr fun k _ => ?_
  rw [show (Finset.univ : Finset (Fin 4)) = {0, 1, 2, 3} from by decide, bigSep_insert (by decide), bigSep_insert (by decide), bigSep_insert (by decide), bigSep_singleton]
  rfl

theorem ownSems_join (c : Dev nD) :
    iprop((bigSep Finset.univ fun k : Fin 8 => semK c k) ∗ semVal ((c : Thread nD τ), .dma oS) 0) ⊢ (Pipeline.ownSems0 osem c : sProp (AM F)) := by
  rw [ownSems_eq, cells_eq (fun i k => semVal (cell c i k) 0)]
  unfold semK
  iintro ⟨H, Ho⟩
  ihave H' := (unpair (Φ := fun k : Fin 8 => (semVal ((c : Thread nD τ), .dma (gS k)) 0 : sProp (AM F)))
    (Ψ := fun k : Fin 8 => (iprop(semVal (cell c 0 k) 0 ∗ semVal (cell c 1 k) 0 ∗ semVal (cell c 2 k) 0 ∗ semVal (cell c 3 k) 0) : sProp (AM F)))) $$ H
  icases H' with ⟨Hg, Hc⟩
  isplitl [Hg]; · iexact Hg
  isplitl [Ho] <;> iassumption

/-! ## The proof data of the region -/

/-- What enters the region's invariant beside the buffers, and what it gives back. -/
def Xk (c : Dev nD) : sProp (AM F) := iprop(∃ K, opened (inM m) K c)
def Yk (c : Dev nD) : sProp (AM F) := semVal (barCell c) 0

/-- The invariant before the region's one point, and after it. -/
def Φ₀ (c : Dev nD) : sProp (AM F) :=
  iprop(Xk m c ∗ StableHlo.held (c : Thread nD τ) rest (V₁ m c) ∗ scr c ∗ ∃ r, prngReg c r)
def Φ₁ (c : Dev nD) : sProp (AM F) :=
  iprop(Yk c ∗ StableHlo.held (c : Thread nD τ) rest (V₂ m c) ∗ scr c ∗ Pipeline.ownSems0 osem c ∗ ∃ r, prngReg c r)

/-- The region's data: the two windows staged and left alone; each device owes its neighbours before the point, nothing after. -/
def dat (c : Dev nD) : Dat τ (Elt F) Unit ℕ UU ℕ cfg0 c where
  A w := V m c (Pipeline.arrRef spec0 w)
  after := fun
    | 0 => fun t => iblk m c 0 t
    | 1 => fun t => iblk m c 1 t
    | ⟨_ + 2, h⟩ => absurd h (Nat.not_lt.2 (Nat.le_add_left _ _))
  Φ t := if t.val = 0 then Φ₀ m c else Φ₁ m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem Φ_first (c : Dev nD) : (dat m c).Φ (t0_0 : Fin cfg0.N).castSucc = Φ₀ m c := by
  show (if (t0_0 : Fin cfg0.N).castSucc.val = 0 then Φ₀ m c else Φ₁ m c) = _; exact if_pos rfl
theorem Φ_last (c : Dev nD) : (dat m c).Φ (t0_0 : Fin cfg0.N).succ = Φ₁ m c := by
  show (if (t0_0 : Fin cfg0.N).succ.val = 0 then Φ₀ m c else Φ₁ m c) = _; exact if_neg (by rw [Fin.val_succ]; exact Nat.succ_ne_zero _)
theorem owed_first (c : Dev nD) : (dat m c).owed (t0_0 : Fin cfg0.N).castSucc = O₀ c := by
  show (if (t0_0 : Fin cfg0.N).castSucc.val = 0 then O₀ c else 0) = _; exact if_pos rfl
theorem owed_last (c : Dev nD) : (dat m c).owed (t0_0 : Fin cfg0.N).succ = 0 := by
  show (if (t0_0 : Fin cfg0.N).succ.val = 0 then O₀ c else 0) = _; exact if_neg (by rw [Fin.val_succ]; exact Nat.succ_ne_zero _)

theorem owesAt_intro {c : Dev nD} (t : Fin (cfg0.N + 1)) (O : CellTallies nD τ sig Unit) (h0 : (dat m c).owed t = O) (W : Waits sig Unit) :
    (owes (c : Thread nD τ) O W : sProp (AM F)) ⊢ (dat m c).owesAt () t := by
  unfold Dat.owesAt Pipeline.owesWithin Dat.bound; rw [h0]
  iintro HO; iexists W; isplitr; · ipureintro; exact fun _ _ => Or.inl trivial
  iexact HO
theorem owesAt_elim {c : Dev nD} (t : Fin (cfg0.N + 1)) (O : CellTallies nD τ sig Unit) (h0 : (dat m c).owed t = O) :
    ((dat m c).owesAt () t : sProp (AM F)) ⊢ iprop(∃ W, owes (c : Thread nD τ) O W) := by
  unfold Dat.owesAt Pipeline.owesWithin; rw [h0]
  iintro ⟨%W, -, HO⟩; iexists W; iexact HO

/-- A staged window holds its block, whatever it held before. -/
theorem before_ids (c : Dev nD) (t : Fin cfg0.N) (d) : (dat m c).before 0 t d = iblk m c 0 t :=
  ((dat m c).before_in_eq_fetched 0 rfl (fun _ => rfl) (fun _ _ _ => rfl) (fun t => by unfold Dat.blockOf; rfl) t d).trans
      (by unfold Dat.fetched Dat.blockOf; rfl)
theorem before_idc (c : Dev nD) (t : Fin cfg0.N) (d) : (dat m c).before 1 t d = iblk m c 1 t :=
  ((dat m c).before_in_eq_fetched 1 rfl (fun _ => rfl) (fun _ _ _ => rfl) (fun t => by unfold Dat.blockOf; rfl) t d).trans
      (by unfold Dat.fetched Dat.blockOf; rfl)

/-- The one block of each window is the whole array. -/
theorem iblk_ids (c : Dev nD) (t : Fin cfg0.N) : iblk m c 0 t = (inM m).ids c := by
  funext x
  unfold iblk
  rw [View.read_apply]
  show (V₁ m c main_arg0 : S1024.Idx → Elt F .i32) _ = (V₁ m c main_arg0 : S1024.Idx → Elt F .i32) x
  refine congrArg (V₁ m c main_arg0 : S1024.Idx → Elt F .i32) (funext fun a => Fin.ext ?_)
  show 0 * _ + 1 * (x a).val = (x a).val
  omega
theorem iblk_idc (c : Dev nD) (t : Fin cfg0.N) : iblk m c 1 t = (inM m).idc c := by
  funext x
  unfold iblk
  rw [View.read_apply]
  show (V₁ m c main_v1 : S1024x1.Idx → Elt F .i32) _ = (V₁ m c main_v1 : S1024x1.Idx → Elt F .i32) x
  refine congrArg (V₁ m c main_v1 : S1024x1.Idx → Elt F .i32) (funext fun a => Fin.ext ?_)
  show 0 * _ + 1 * (x a).val = (x a).val
  omega

theorem owns_ids (c : Dev nD) (X : S1024.Idx → Elt F .i32) : (owns (c : Thread nD τ) mIds fullShare X : sProp (AM F)) = at_ c mIds fullShare X := by
  rw [owns_whole]; unfold at_; rw [show mIds.view.set = Finset.univ from View.set_whole _]
theorem owns_idc (c : Dev nD) (X : S1024x1.Idx → Elt F .i32) : (owns (c : Thread nD τ) mIdc fullShare X : sProp (AM F)) = at_ c mIdc fullShare X := by
  rw [owns_whole]; unfold at_; rw [show mIdc.view.set = Finset.univ from View.set_whole _]

theorem scopedRest_eq (c : Dev nD) : (Pipeline.scopedRest (Ix := Unit) (Name := ℕ) (U := UU) (Lvl := ℕ) (Val := Elt F) spec0 c : sProp (AM F)) = scr c :=
  scopedRest0_eq c

/-! ## The body's obligation -/

theorem win_ids (c : Dev nD) (d) : (owns (c : Thread nD τ) mIds fullShare ((dat m c).before 0 t0_0 d) : sProp (AM F)) = at_ c mIds fullShare ((inM m).ids c) := by
  rw [before_ids, iblk_ids, owns_ids]
theorem win_idc (c : Dev nD) (d) : (owns (c : Thread nD τ) mIdc fullShare ((dat m c).before 1 t0_0 d) : sProp (AM F)) = at_ c mIdc fullShare ((inM m).idc c) := by
  rw [before_idc, iblk_idc, owns_idc]

/-- What the body leaves, as the region's invariant after its point, what is then owed, and the windows' staging buffers. -/
theorem leaves_post (c : Dev nD) : leaves (inM m) c (iprop(∃ r, prngReg c r))
    ⊢ iprop(Φ₁ m c ∗ (dat m c).owesAt () (t0_0 : Fin cfg0.N).succ ∗ owns (c : Thread nD τ) mIds fullShare (iblk m c 0 t0_0) ∗ owns (c : Thread nD τ) mIdc fullShare (iblk m c 1 t0_0)) := by
  unfold leaves Φ₁ Yk
  rw [iblk_ids, iblk_idc, owns_ids, owns_idc, rest_eq, V₂_out, V₂_of_ne m c (Proc.devRef .tc main_arg1) (by decide)]
  iintro ⟨⟨Hscr, Hout, Htab, Hids, Hidc, Hsem, HoS, Hbar, ⟨%W, HO⟩⟩, Hp⟩
  isplitl [Hscr Hout Htab Hsem HoS Hbar Hp]
  · isplitl [Hbar]; · iexact Hbar
    isplitl [Hout Htab]
    · isplitl [Htab]; · iexact Htab
      iexact Hout
    isplitl [Hscr]; · iexact Hscr
    isplitl [Hsem HoS]
    · iapply (ownSems_join c)
      isplitl [Hsem] <;> iassumption
    iexact Hp
  isplitl [HO]
  · iapply (owesAt_intro m _ _ (owed_last m c) W); iexact HO
  isplitl [Hids] <;> iassumption

theorem body_obl (c : Dev nD) : BodyObligation (dat m c) (defs₀ (F := F)) 𝒱₀ () Set.univ := fun t => by
  obtain rfl := fin_N0 t
  rw [bigSep_W0, bigSep_W0, Φ_first, Φ_last]
  show (_ : sProp (AM F)) ⊢ wp frame (wpE (defs₀ (F := F)) 𝒱₀ (c : Thread nD τ) none) Set.univ
    (cc0_body (F := F) mIds (Memref.isWhole_whole _) mIdc (Memref.isWhole_whole _) mTab (Memref.isWhole_whole _) mOut (Memref.isWhole_whole _) mStg (Memref.isWhole_whole _) mXs hXs mXr hXr mYs hYs mYr hYr mObf (Memref.isWhole_whole _) mCnt (Memref.isWhole_whole _) cc0_scratch7 cc0_scratch8 cc0_scratch9 cc0_scratch10 cc0_scratch11 cc0_scratch12) _
  rw [body_eq]
  simp only [Prog.lift, Prog.bind_op, Prog.bind_ret, wp_deviceId]
  unfold Φ₀ Xk
  rw [rest_eq]
  iintro ⟨⟨⟨%K, HX⟩, ⟨Htab, Hout⟩, Hscr, Hp⟩, HO, ⟨%d0, H0⟩, ⟨%d1, H1⟩⟩
  ihave HO := (owesAt_elim m _ _ (owed_first m c)) $$ HO
  ihave H0 := (Entails.of_eq (win_ids m c d0)) $$ H0
  ihave H1 := (Entails.of_eq (win_idc m c d1)) $$ H1
  iapply (body_whole (inM m) K c (P := iprop(∃ r, prngReg c r)) (leaves_post m c))
  isplitl [HX]; · iexact HX
  isplitl [Hscr]; · iexact Hscr
  isplitl [Hout]; · unfold wh; iexists _; iexact Hout
  isplitl [Htab]; · iexact Htab
  isplitl [H0]; · iexact H0
  isplitl [H1]; · iexact H1
  isplitl [HO] <;> iassumption

/-! ## The region as a segment -/

theorem pdats_owed (c : Dev nD) : (pdats m 0 c).owed 0 = 0 + O₀ c := (owed_first m c).trans (zero_add _).symm

theorem O₀_pos {c : Dev nD} {g : GSem nD τ sig} {u : Unit} (h : 0 < O₀ c g u) :
    (∃ k, g = cell (xp c) 1 k) ∨ (∃ k, g = cell (yp c) 3 k) ∨ g = barCell (yp c) ∨ g = barCell (xp c) := by
  unfold O₀ ow at h
  rw [Pi.add_apply, Pi.add_apply, Pi.add_apply, Finsupp.add_apply, Finsupp.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (owFrom_pos h)
      · exact .inr (.inl (owFrom_pos h))
    · rw [tallyAt_apply] at h
      split at h
      · next hg => exact .inr (.inr (.inl hg.1))
      · exact absurd h (Nat.lt_irrefl 0)
  · rw [tallyAt_apply] at h
    split at h
    · next hg => exact .inr (.inr (.inr hg.1))
    · exact absurd h (Nat.lt_irrefl 0)

/-- Everything owed is above the level of the staging's waits. -/
theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases O₀_pos h with ⟨k, rfl⟩ | ⟨k, rfl⟩ | rfl | rfl
    · exact ⟨by rw [L_tc]; exact Finset.mem_singleton_self _, by rw [lv_dma]; decide⟩
    · exact ⟨by rw [L_tc]; exact Finset.mem_singleton_self _, by rw [lv_dma]; decide⟩
    · exact ⟨by rw [L_tc]; exact Finset.mem_singleton_self _, by rw [lv_bar]; decide⟩
    · exact ⟨by rw [L_tc]; exact Finset.mem_singleton_self _, by rw [lv_bar]; decide⟩
  · exact absurd h (Nat.lt_irrefl 0)

theorem stage_lv : ∀ (w : Fin 2) (s : Fin (win0 w).nbuf), ¬ 11 ≤ ((win0 w).sem s).val := by decide +kernel

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r) ∗ StableHlo.held (c.tc : Thread nD τ) rest (V₁ m c) ∗ Xk m c)
    ⊢ (pdats m 0 c).Φ 0 := by
  rw [show (pdats m 0 c).Φ 0 = Φ₀ m c from Φ_first m c]
  show iprop(Pipeline.scopedRest spec0 c ∗ _) ⊢ _
  rw [scopedRest_eq]
  unfold Φ₀
  iintro ⟨Hs, Hp, Hh, HX⟩
  isplitl [HX]; · iexact HX
  isplitl [Hh]; · iexact Hh
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) rest (V₂ m c) ∗ Pipeline.ownSems0 osem c ∗ Yk c) := by
  rw [show (pdats m 0 c).Φ (Fin.last (Pipeline.pin (pcfgs (F := F)) adm 0).N) = Φ₁ m c from Φ_last m c]
  show _ ⊢ iprop(Pipeline.scopedRest spec0 c ∗ _)
  rw [scopedRest_eq]
  unfold Φ₁
  iintro ⟨HY, Hh, Hs, Ho, Hp⟩
  isplitl [Hs]; · iexact Hs
  isplitl [Hp]; · iexact Hp
  isplitl [Hh]; · iexact Hh
  isplitl [Ho] <;> iassumption

end Cert.KernelIdeal.Run
-- ==== Proof.Open.lean ====
/- Entering and leaving the region: the cells of the protocol opened from the launch's deal, and the region as a segment of
   the program. -/
module

public import proofs.«01_k».proof.Proof.Region

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

section Deal
variable (I : In F) (K : GSem nD τ sig → ℕ)

/-- What every device may consult: all the cells' invariants, and that every barrier is open. -/
def pub : sProp (AM F) :=
  iprop((bigSep Finset.univ fun d : Dev nD => inv I K (barCell d))
    ∗ (bigSep Finset.univ fun x : Dev nD × Fin 4 × Fin 8 => inv I K (cell x.1 x.2.1 x.2.2))
    ∗ (bigSep Finset.univ fun d : Dev nD => reached ER (barCell d) 0))
instance pub_persistent : BI.Persistent (pub I K) := by unfold pub; infer_instance

/-- The tokens of the duties device `c` pays into the barriers, and those of chunk `k`'s copies. -/
def barToks (c : Dev nD) : sProp (AM F) := iprop(dutyTok ER (barCell (xp c)) 0 true ∗ dutyTok ER (barCell (yp c)) 0 false)
def chToks (c : Dev nD) (k : Fin 8) : sProp (AM F) :=
  iprop(dutyTok ER (cell c 0 k) 0 true ∗ dutyTok ER (cell (xp c) 1 k) 0 true ∗ dutyTok ER (cell c 2 k) 0 true ∗ dutyTok ER (cell (yp c) 3 k) 0 true)
/-- What stays with device `c`: its barrier's position, the rights to open its own cells, the tokens of its duties. -/
def priv (c : Dev nD) : sProp (AM F) :=
  iprop(atPos ER (barCell c) 0 ∅ 0 ∗ (bigSep Finset.univ fun x : Fin 4 × Fin 8 => openTok ER (cell c x.1 x.2)) ∗ barToks c
    ∗ bigSep Finset.univ fun k : Fin 8 => chToks c k)
/-- The credit of what device `c` waits to be paid by its neighbours. -/
def creds (c : Dev nD) : sProp (AM F) :=
  iprop(cred (tallyAt (barCell c) () 2) ∗ bigSep Finset.univ fun k : Fin 8 => iprop(cred (tallyAt (cell c 1 k) () N) ∗ cred (tallyAt (cell c 3 k) () N)))

theorem pub_cell (d : Dev nD) (i : Fin 4) (k : Fin 8) : pub I K ⊢ inv I K (cell d i k) := by
  have h : pub I K ⊢ bigSep Finset.univ fun x : Dev nD × Fin 4 × Fin 8 => inv I K (cell x.1 x.2.1 x.2.2) := by
    unfold pub
    iintro ⟨-, H, -⟩
    iexact H
  exact h.trans (bigSep_elim (Φ := fun x : Dev nD × Fin 4 × Fin 8 => inv I K (cell x.1 x.2.1 x.2.2)) (Finset.mem_univ (d, i, k)))

/-- One own cell opened. -/
theorem open_one (c : Dev nD) (x : Fin 4 × Fin 8) :
    iprop(pub I K ∗ (openTok ER (cell c x.1 x.2) ∗ semVal (cell c x.1 x.2) 0))
      ⊢ (iprop(|={Set.univ}=> (atPos ER (cell c x.1 x.2) 0 ∅ 0 ∗ reached ER (cell c x.1 x.2) 0)) : sProp (AM F)) := by
  iintro ⟨#HP, Ho, Hv⟩
  ihave #HI := (pub_cell I K c x.1 x.2) $$ HP
  imod (Rounds.cell_open ER (rd I) (g := cell c x.1 x.2) (Set.mem_univ (K (cell c x.1 x.2)))) $$ [Ho Hv] with ⟨Hat, #Hr⟩
  · isplitr; · iexact HI
    isplitl [Ho] <;> iassumption
  imodintro
  isplitl [Hat]; · iexact Hat
  iexact Hr

/-- All of a device's own cells opened. -/
theorem open_all (c : Dev nD) :
    iprop(pub I K ∗ (bigSep Finset.univ fun x : Fin 4 × Fin 8 => openTok ER (cell c x.1 x.2)) ∗ (bigSep Finset.univ fun x : Fin 4 × Fin 8 => semVal (cell c x.1 x.2) 0))
      ⊢ (iprop(|={Set.univ}=> ((bigSep Finset.univ fun x : Fin 4 × Fin 8 => atPos ER (cell c x.1 x.2) 0 ∅ 0)
        ∗ (bigSep Finset.univ fun x : Fin 4 × Fin 8 => reached ER (cell c x.1 x.2) 0))) : sProp (AM F)) := by
  have h : iprop(pub I K ∗ (bigSep Finset.univ fun x : Fin 4 × Fin 8 => iprop(openTok ER (cell c x.1 x.2) ∗ semVal (cell c x.1 x.2) 0)))
      ⊢ (iprop(|={Set.univ}=> bigSep Finset.univ fun x : Fin 4 × Fin 8 => iprop(atPos ER (cell c x.1 x.2) 0 ∅ 0 ∗ reached ER (cell c x.1 x.2) 0)) : sProp (AM F)) :=
    BI.Entails.trans (bigSep_with_persistent (Ψ := fun x : Fin 4 × Fin 8 => (iprop(|={Set.univ}=> (atPos ER (cell c x.1 x.2) 0 ∅ 0 ∗ reached ER (cell c x.1 x.2) 0)) : sProp (AM F)))
      fun x _ => open_one I K c x) (bigSep_fupd _ _)
  iintro ⟨#HP, Ho, Hv⟩
  ihave H := (pair (Φ := fun x : Fin 4 × Fin 8 => (openTok ER (cell c x.1 x.2) : sProp (AM F))) (Ψ := fun x : Fin 4 × Fin 8 => (semVal (cell c x.1 x.2) 0 : sProp (AM F)))) $$ [Ho Hv]
  · isplitl [Ho] <;> iassumption
  imod h $$ [H] with H'
  · isplitr; · iexact HP
    iexact H
  imodintro
  iapply (unpair (Φ := fun x : Fin 4 × Fin 8 => (atPos ER (cell c x.1 x.2) 0 ∅ 0 : sProp (AM F))) (Ψ := fun x : Fin 4 × Fin 8 => (reached ER (cell c x.1 x.2) 0 : sProp (AM F)))) $$ H'

/-- A device's cells' positions, tokens and credit, chunk by chunk. -/
theorem links (c : Dev nD) :
    iprop((bigSep Finset.univ fun x : Fin 4 × Fin 8 => atPos ER (cell c x.1 x.2) 0 ∅ 0) ∗ (bigSep Finset.univ fun k : Fin 8 => chToks c k)
      ∗ bigSep Finset.univ fun k : Fin 8 => iprop(cred (tallyAt (cell c 1 k) () N) ∗ cred (tallyAt (cell c 3 k) () N)))
    ⊢ (bigSep Finset.univ fun k : Fin 8 => linK c k : sProp (AM F)) := by
  rw [cells_eq (fun i k => atPos ER (cell c i k) 0 ∅ 0)]
  unfold linK
  iintro ⟨H1, H2, H3⟩
  iapply (pair (F := F))
  isplitl [H1]; · iexact H1
  iapply (pair (F := F))
  isplitl [H2]; · iexact H2
  iexact H3

/-- The launch's deal, with the body's own semaphores at zero, opened. -/
theorem open_deal (c : Dev nD) :
    iprop(((∃ K, pub I K ∗ priv c) ∗ creds c) ∗ Pipeline.ownSems0 osem c ∗ levAts L lv) ⊢ (|={Set.univ}=> (∃ K, opened I K c) : sProp (AM F)) := by
  rw [ownSems_eq]
  unfold priv creds barToks
  iintro ⟨⟨⟨%K, #HP, Hbar, Ho, ⟨Ht1, Ht2⟩, Hch⟩, ⟨Hcb, Hck⟩⟩, ⟨Hg, HoS, Hv⟩, #Hlev⟩
  imod (open_all I K c) $$ [Ho Hv] with ⟨Hat, #Hr⟩
  · isplitr; · iexact HP
    isplitl [Ho] <;> iassumption
  imod (Transfers.batch_alloc' EC (c := (c : Thread nD τ)) (ι := ()) NO (oPay I c)) $$ HoS with HoB
  imodintro
  iexists K
  unfold opened bars recs
  ihave Hl := (links c) $$ [Hat Hch Hck]
  · isplitl [Hat]; · iexact Hat
    isplitl [Hch] <;> iassumption
  unfold pub
  icases HP with ⟨#H1, #H2, #H3⟩
  isplitr
  · isplitr; · iexact H1
    isplitr; · iexact H2
    isplitr; · iexact H3
    isplitr; · iexact Hr
    iexact Hlev
  isplitl [Hl]; · iexact Hl
  isplitl [Hbar Ht1 Ht2 Hcb]
  · isplitl [Ht1]; · iexact Ht1
    isplitl [Ht2]; · iexact Ht2
    isplitl [Hbar] <;> iassumption
  isplitl [Hg] <;> iassumption

end Deal

variable (m : (ℓ : Loc nD τ sig) → Buf (Elt F) ℓ) (ρ : Dev nD → PrngReg)

/-- What the launch deals device `c` for the region. -/
def Tk (c : Dev nD) : sProp (AM F) := iprop((∃ K, pub (inM m) K ∗ priv c) ∗ creds c)

theorem hopen (c : Dev nD) : iprop(Tk m c ∗ Pipeline.ownSems0 osem c ∗ levAts L lv) ⊢ (|={Set.univ}=> Xk m c : sProp (AM F)) := open_deal (inM m) c

theorem arr_ne : ∀ w : Fin 2, Pipeline.arrRef spec0 w ≠ main_v2 := by decide

theorem hW (c : Dev nD) (w : Fin 2) (t : ℕ) : (dat m c).arrAt w t = V₁ m c (Proc.devRef .tc (Pipeline.arrRef spec0 w)) := by
  have hin : ∀ w : Fin 2, (win0 w).isOut = false := by decide
  exact (dat m c).arrAt_in w (hin w) t

theorem hW' (c : Dev nD) (w : Fin 2) (t : ℕ) : (dat m c).arrAt w t = V₂ m c (Proc.devRef .tc (Pipeline.arrRef spec0 w)) := by
  rw [hW, V₂_of_ne]
  exact StableHlo.devRef_ne_of_ne (arr_ne w)

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    rest rest (Finset.Subset.refl _) kitP rfl (fun c => (body_obl m c).loose)
    (fun _ => 0) O₀ (pdats_owed m) (fun c => owed_last m c) (fun _ => rfl)
    (fun c w => by
      have hin : ∀ w : Fin 2, (win0 w).isOut = false := by decide
      show (if (win0 w).isOut then fullShare else fullShare) = fullShare
      exact ite_self _)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _,
     fun c w s => le_of_eq (if_neg (stage_lv w s)), fun c t g i h => cut m c t g i h⟩
    (fun _ => iprop(emp))
    (fun c w => hW m c w 0) (fun c w => hW' m c w _)

end Cert.KernelIdeal.Run
-- ==== Proof.Launch.lean ====
/- The launch: every cell's invariant allocated, the region's own cells dormant, the tokens, positions and credit dealt to
   the devices; and the program's run from any memory, to the result on every device. -/
module

public import proofs.«01_k».proof.Proof.Open

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## The cells, and what each core is owed -/

theorem dS_inj : Function.Injective (fun x : Fin 4 × Fin 8 => dS x.1 x.2) := by decide +kernel
theorem cell_eq {c d : Dev nD} {i j : Fin 4} {k l : Fin 8} (h : cell c i k = cell d j l) : c = d ∧ i = j ∧ k = l := by
  have h2 : dS i k = dS j l := by
    have := congrArg Prod.snd h
    injection this
  have h3 := dS_inj (a₁ := (i, k)) (a₂ := (j, l)) h2
  exact ⟨congrArg (fun g : GSem nD τ sig => g.1.1) h, congrArg Prod.fst h3, congrArg Prod.snd h3⟩
theorem bar_eq {c d : Dev nD} (h : barCell c = barCell d) : c = d := congrArg (fun g : GSem nD τ sig => g.1.1) h
theorem cell_ne_bar {c d : Dev nD} {i : Fin 4} {k : Fin 8} : barCell c ≠ cell d i k := fun h => by
  have := congrArg Prod.snd h
  injection this

theorem owFrom_cell (p c : Dev nD) (i j : Fin 4) (k : Fin 8) : owFrom p i 0 (cell c j k) () = if p = c ∧ i = j then N else 0 := by
  unfold owFrom
  rw [Finset.sum_apply, Finsupp.finset_sum_apply]
  split
  · next h =>
    obtain ⟨rfl, rfl⟩ := h
    rw [Finset.sum_eq_single k (fun l _ hl => by rw [tallyAt_apply, if_neg (fun h => hl (cell_eq h.1).2.2.symm)])
      (fun h => absurd (by simp) h), tallyAt_apply, if_pos ⟨rfl, rfl⟩]
  · next h =>
    exact Finset.sum_eq_zero fun l _ => by rw [tallyAt_apply, if_neg (fun h' => h ⟨(cell_eq h'.1).1.symm, (cell_eq h'.1).2.1.symm⟩)]
theorem owFrom_bar (p c : Dev nD) (i : Fin 4) : owFrom p i 0 (barCell c) () = 0 := by
  unfold owFrom
  rw [Finset.sum_apply, Finsupp.finset_sum_apply]
  exact Finset.sum_eq_zero fun l _ => by rw [tallyAt_apply, if_neg (fun h' => cell_ne_bar h'.1)]

theorem xp_swap (d c : Dev nD) : xp d = c ↔ d = xp c := ⟨fun h => by rw [← h, xp_xp], fun h => by rw [h, xp_xp]⟩
theorem yp_swap (d c : Dev nD) : yp d = c ↔ d = yp c := ⟨fun h => by rw [← h, yp_yp], fun h => by rw [h, yp_yp]⟩

theorem owed_bar (d c : Dev nD) : O₀ d (barCell c) () = (if d = yp c then 1 else 0) + (if d = xp c then 1 else 0) := by
  unfold O₀ ow
  rw [Pi.add_apply, Pi.add_apply, Pi.add_apply, Finsupp.add_apply, Finsupp.add_apply, Finsupp.add_apply, owFrom_bar, owFrom_bar,
    tallyAt_apply, tallyAt_apply]
  have h1 : (barCell c = barCell (yp d) ∧ () = ()) ↔ d = yp c := ⟨fun h => (yp_swap d c).mp (bar_eq h.1).symm, fun h => ⟨by rw [h, yp_yp], rfl⟩⟩
  have h2 : (barCell c = barCell (xp d) ∧ () = ()) ↔ d = xp c := ⟨fun h => (xp_swap d c).mp (bar_eq h.1).symm, fun h => ⟨by rw [h, xp_xp], rfl⟩⟩
  rw [if_congr h1 rfl rfl, if_congr h2 rfl rfl]
  omega
theorem owed_cell (d c : Dev nD) (j : Fin 4) (k : Fin 8) :
    O₀ d (cell c j k) () = (if d = xp c ∧ 1 = j then N else 0) + (if d = yp c ∧ 3 = j then N else 0) := by
  unfold O₀ ow
  rw [Pi.add_apply, Pi.add_apply, Pi.add_apply, Finsupp.add_apply, Finsupp.add_apply, Finsupp.add_apply, owFrom_cell, owFrom_cell,
    tallyAt_ne_cell (fun h => cell_ne_bar h.symm), tallyAt_ne_cell (fun h => cell_ne_bar h.symm), Finsupp.zero_apply, Nat.add_zero, Nat.add_zero,
    if_congr (and_congr_left fun _ => xp_swap d c) rfl rfl, if_congr (and_congr_left fun _ => yp_swap d c) rfl rfl]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
theorem launch_x (c : Dev nD) (k : Fin 8) :
    tallyOn (cell c 1 k) (launchCredit (Pipeline.owing O₀) 0 (cell c 1 k)) = (tallyAt (cell c 1 k) () N : CellTallies nD τ sig Unit) := by
  unfold tallyAt; refine congrArg _ (Finsupp.ext fun u => ?_); cases u
  have h (d : Dev nD) : O₀ d (cell c 1 k) () = if d = xp c then N else 0 := by
    rw [owed_cell, if_neg (fun h : d = yp c ∧ (3 : Fin 4) = 1 => absurd h.2 (by decide)), Nat.add_zero]
    exact if_congr ⟨fun h => h.1, fun h => ⟨h, rfl⟩⟩ rfl rfl
  rw [Pipeline.launchCredit_owing, Finsupp.single_eq_same, Finset.sum_congr rfl fun d _ => h d, Finset.sum_ite_eq' Finset.univ (xp c) fun _ => N, if_pos (Finset.mem_univ _)]
theorem launch_y (c : Dev nD) (k : Fin 8) :
    tallyOn (cell c 3 k) (launchCredit (Pipeline.owing O₀) 0 (cell c 3 k)) = (tallyAt (cell c 3 k) () N : CellTallies nD τ sig Unit) := by
  unfold tallyAt; refine congrArg _ (Finsupp.ext fun u => ?_); cases u
  have h (d : Dev nD) : O₀ d (cell c 3 k) () = if d = yp c then N else 0 := by
    rw [owed_cell, if_neg (fun h : d = xp c ∧ (1 : Fin 4) = 3 => absurd h.2 (by decide)), Nat.zero_add]
    exact if_congr ⟨fun h => h.1, fun h => ⟨h, rfl⟩⟩ rfl rfl
  rw [Pipeline.launchCredit_owing, Finsupp.single_eq_same, Finset.sum_congr rfl fun d _ => h d, Finset.sum_ite_eq' Finset.univ (yp c) fun _ => N, if_pos (Finset.mem_univ _)]

/-- The semaphores a device is paid on by its neighbours. -/
def paid : Unit ⊕ (Fin 8 ⊕ Fin 8) → SemLoc sig
  | .inl _ => .reg barS
  | .inr (.inl k) => .dma (dS 1 k)
  | .inr (.inr k) => .dma (dS 3 k)
theorem paid_inj : Function.Injective paid := by decide +kernel

theorem creds_intro (c : Dev nD) : (Pipeline.launchCred O₀ c : sProp (AM F)) ⊢ creds c := by
  unfold Pipeline.launchCred creds
  refine BI.Entails.trans (bigSep_subset (Finset.subset_univ (Finset.univ.map ⟨paid, paid_inj⟩))) ?_
  rw [bigSep_map, bigSep_univ_sum, bigSep_univ_sum, bigSep_univ_of_subsingleton (), bigSep_sep']
  have h : (iprop(cred (tallyOn (barCell c) (launchCredit (Pipeline.owing O₀) 0 (barCell c)))
      ∗ (bigSep Finset.univ fun k : Fin 8 => cred (tallyOn (cell c 1 k) (launchCredit (Pipeline.owing O₀) 0 (cell c 1 k))))
      ∗ (bigSep Finset.univ fun k : Fin 8 => cred (tallyOn (cell c 3 k) (launchCredit (Pipeline.owing O₀) 0 (cell c 3 k))))) : sProp (AM F))
    = iprop(cred (tallyAt (barCell c) () 2) ∗ (bigSep Finset.univ fun k : Fin 8 => cred (tallyAt (cell c 1 k) () N))
      ∗ (bigSep Finset.univ fun k : Fin 8 => cred (tallyAt (cell c 3 k) () N))) := by
    simp only [launch_bar, launch_x, launch_y]
  exact Entails.of_eq h

/-! ## The launch element -/

def barEmb : Dev nD ↪ GSem nD τ sig := ⟨fun c => barCell c, fun _ _ h => bar_eq h⟩
def scEmb : Dev nD × Fin 4 × Fin 8 ↪ GSem nD τ sig :=
  ⟨fun x => cell x.1 x.2.1 x.2.2, fun _ _ h => Prod.ext (cell_eq h).1 (Prod.ext (cell_eq h).2.1 (cell_eq h).2.2)⟩

/-- The barriers, funded from their counters; the region's cells, funded dormant. -/
abbrev barCells : Finset (GSem nD τ sig) := Finset.univ.map barEmb
abbrev scCells : Finset (GSem nD τ sig) := Finset.univ.map scEmb

/-- Every duty's token: the two of each barrier, and each copy's one. -/
def tok : Bool ⊕ (Fin 4 × Fin 8) → SemLoc sig × Bool
  | .inl b => (.reg barS, b)
  | .inr x => (.dma (dS x.1 x.2), true)
theorem tok_inj : Function.Injective tok := by decide +kernel
def tokEmb : Dev nD × (Bool ⊕ (Fin 4 × Fin 8)) ↪ GSem nD τ sig × ℕ × Bool :=
  ⟨fun x => (((x.1 : Thread nD τ), (tok x.2).1), 0, (tok x.2).2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2.2) h)))⟩
def toks : Finset (GSem nD τ sig × ℕ × Bool) := Finset.univ.map tokEmb

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact cell_ne_bar h.symm

/-- The launch element: the pipeline's own, the protocol's, and no counter of a batch. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- A resource held by one device alone. -/
def onDev (c₀ : Dev nD) (X : sProp (AM F)) (c : Dev nD) : sProp (AM F) := if c = c₀ then X else iprop(emp)
theorem bigSep_onDev (c₀ : Dev nD) (X : sProp (AM F)) : bigSep Finset.univ (onDev c₀ X) = X := by
  rw [bigSep_univ_at _ c₀, bigSep_congr (s := Finset.univ.erase c₀) (Ψ := fun _ => (BI.emp : sProp (AM F)))
      fun c hc => by unfold onDev; rw [if_neg (Finset.ne_of_mem_erase hc)]; rfl, BI.bigSep_emp_const]
  unfold onDev; rw [if_pos rfl]
  exact BI.equiv_iff.mp sep_emp

def Gh : Dev nD → sProp (AM F) := onDev 0 (BI.own (ER (launchOf barCells scCells toks)))

/-! ## The tokens, each dealt to the device that pays it -/

def xpE : Dev nD ≃ Dev nD := ⟨xp, xp, xp_xp, xp_xp⟩
def ypE : Dev nD ≃ Dev nD := ⟨yp, yp, yp_yp, yp_yp⟩

theorem toks_eq : bigSep toks (fun x => (dutyTok ER x.1 x.2.1 x.2.2 : sProp (AM F)))
    = iprop((bigSep Finset.univ fun c : Dev nD => iprop(dutyTok ER (barCell c) 0 true ∗ dutyTok ER (barCell c) 0 false))
      ∗ bigSep Finset.univ fun c : Dev nD => bigSep Finset.univ fun k : Fin 8 =>
          iprop(dutyTok ER (cell c 0 k) 0 true ∗ dutyTok ER (cell c 1 k) 0 true ∗ dutyTok ER (cell c 2 k) 0 true ∗ dutyTok ER (cell c 3 k) 0 true)) := by
  unfold toks
  rw [bigSep_map, bigSep_univ_prod, ← bigSep_sep']
  refine bigSep_congr fun c _ => ?_
  rw [bigSep_univ_sum, show (Finset.univ : Finset Bool) = insert true {false} from rfl, bigSep_insert (by decide), bigSep_singleton,
    ← cells_eq (fun i k => dutyTok ER (cell c i k) 0 true)]
  rfl

theorem toks_around : bigSep toks (fun x => (dutyTok ER x.1 x.2.1 x.2.2 : sProp (AM F)))
    ⊢ iprop((bigSep Finset.univ fun c : Dev nD => barToks c) ∗ bigSep Finset.univ fun c : Dev nD => bigSep Finset.univ fun k : Fin 8 => chToks c k) := by
  rw [toks_eq]
  refine Entails.of_eq ?_
  unfold barToks chToks
  simp only [bigSep_sep']
  rw [bigSep_univ_equiv xpE (fun c : Dev nD => (dutyTok ER (barCell c) 0 true : sProp (AM F))),
    bigSep_univ_equiv ypE (fun c : Dev nD => (dutyTok ER (barCell c) 0 false : sProp (AM F))),
    bigSep_univ_equiv xpE (fun c : Dev nD => (bigSep Finset.univ fun k : Fin 8 => dutyTok ER (cell c 1 k) 0 true : sProp (AM F))),
    bigSep_univ_equiv ypE (fun c : Dev nD => (bigSep Finset.univ fun k : Fin 8 => dutyTok ER (cell c 3 k) 0 true : sProp (AM F)))]
  rfl

/-! ## The launch -/

variable (m : (ℓ : Loc nD τ sig) → Buf (Elt F) ℓ) (ρ : Dev nD → PrngReg)

/-- The buffers that outlive the region. -/
def bufs : Finset (DevRef τ sig) := (StableHlo.tcRefs τ sig).filter fun b => ¬ b.isScoped

theorem unscopedBufs_held (c : Dev nD) (W : Valuation τ sig (Elt F)) :
    (unscopedBufs c (fun b => W b) : sProp (AM F)) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp (AM F))
    = iprop((((c : Thread nD τ).loc main_arg0) ↦{fullShare} W main_arg0) ∗ (((c : Thread nD τ).loc main_arg1) ↦{fullShare} W main_arg1)
      ∗ (((c : Thread nD τ).loc main_v1) ↦{fullShare} W main_v1) ∗ (((c : Thread nD τ).loc main_v2) ↦{fullShare} W main_v2)) := by
  unfold StableHlo.held
  rw [bigSep_eq_bigSepL_of_eq [Proc.devRef .tc main_arg0, Proc.devRef .tc main_arg1, Proc.devRef .tc main_v1, Proc.devRef .tc main_v2] (by decide) (by decide)]
  rfl

/-- The buffers are the windows' arrays and the two the body addresses itself. -/
theorem bufs_split_rest (c : Dev nD) (W : Valuation τ sig (Elt F)) : (StableHlo.held (c : Thread nD τ) bufs W : sProp (AM F))
    = iprop(StableHlo.held (c : Thread nD τ) arrs W ∗ StableHlo.held (c : Thread nD τ) rest W) := by
  rw [StableHlo.held_sub_split (c : Thread nD τ) (show arrs ⊆ bufs by decide), show bufs \ arrs = rest by decide]

theorem unscopedSems_eq (c : Dev nD) : (unscopedSems0 c : sProp (AM F)) = semVal (barCell c) 0 := by
  unfold unscopedSems0
  rw [show (Finset.univ.filter fun sm : SemLoc sig => ¬ sm.isScoped .tc) = {SemLoc.reg barS} from by decide +kernel, BI.bigSep_singleton]

/-- What rides beside the buffers up to the region. -/
def R (c : Dev nD) : sProp (AM F) := iprop(Tk m c ∗ (∃ r, prngReg c r) ∗ ∃ W, owes (c : Thread nD τ) (O₀ c) W)

abbrev T₀ (c : Dev nD) : sProp (AM F) := iprop(StableHlo.held (c : Thread nD τ) bufs (V₀ m c) ∗ R m c)
abbrev Tₙ (c : Dev nD) : sProp (AM F) := iprop(StableHlo.held (c : Thread nD τ) bufs (V₂ m c) ∗ semVal (barCell c) 0)

/-- What of a core's launch holdings is not the protocol's. -/
def bundle (c : Dev nD) : sProp (AM F) :=
  iprop(StableHlo.held (c : Thread nD τ) bufs (V₀ m c) ∗ creds c ∗ owes (c : Thread nD τ) (O₀ c) ∅ ∗ ∃ r, prngReg c r)

/-- The invariants and the barriers' rounds as the launch gives them. -/
def records (κ : GSem nD τ sig → ℕ) : sProp (AM F) :=
  iprop((bigSep (barCells ∪ scCells) fun g => inv (inM m) κ g) ∗ bigSep barCells fun g => reached ER g 0)
instance records_persistent (κ : GSem nD τ sig → ℕ) : BI.Persistent (records m κ) := by unfold records; infer_instance

theorem records_pub (κ : GSem nD τ sig → ℕ) : records m κ ⊢ pub (inM m) κ := by
  have h : (bigSep (barCells ∪ scCells) fun g => inv (inM m) κ g : sProp (AM F)) = iprop((bigSep Finset.univ fun d : Dev nD => inv (inM m) κ (barCell d))
      ∗ (bigSep Finset.univ fun x : Dev nD × Fin 4 × Fin 8 => inv (inM m) κ (cell x.1 x.2.1 x.2.2))) := by
    rw [bigSep_union disjoint_cells, bigSep_map, bigSep_map]; rfl
  unfold records pub
  rw [h, bigSep_map]
  iintro ⟨⟨H1, H2⟩, H3⟩
  isplitl [H1]; · iexact H1
  isplitl [H2]; · iexact H2
  iexact H3

theorem T₀_intro (κ : GSem nD τ sig → ℕ) (c : Dev nD) : iprop(records m κ ∗ (priv c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists κ
      isplitr
      · iapply (records_pub m κ); iexact HR
      iexact Hl
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gh c)) ∗ levAts L lv)
      ⊢ (|={Set.univ}=> bigSep Finset.univ (T₀ m) : sProp (AM F)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ Gh c)
      ⊢ (iprop(bundle m c ∗ (semVal (barCell c) 0 ∗ Gh c)) : sProp (AM F)) := by
    rw [show unscopedBufs c (fun b => m ((c : Thread nD τ).loc b)) = StableHlo.held (c : Thread nD τ) bufs (V₀ m c) from unscopedBufs_held c (V₀ m c),
      unscopedSems_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp (AM F))) ⊢ bigSep barCells (fun g => (semVal g 0 : sProp (AM F))) :=
    Entails.of_eq (bigSep_map (s := Finset.univ) barEmb (Φ := fun g : GSem nD τ sig => (semVal g 0 : sProp (AM F)))).symm
  have hat : bigSep barCells (fun g => (atPos ER g 0 ∅ 0 : sProp (AM F))) ⊢ bigSep Finset.univ (fun c : Dev nD => (atPos ER (barCell c) 0 ∅ 0 : sProp (AM F))) :=
    Entails.of_eq (bigSep_map (s := Finset.univ) barEmb (Φ := fun g : GSem nD τ sig => (atPos ER g 0 ∅ 0 : sProp (AM F))))
  have hopen : bigSep scCells (fun g => (openTok ER g : sProp (AM F)))
      ⊢ bigSep Finset.univ (fun c : Dev nD => bigSep Finset.univ fun x : Fin 4 × Fin 8 => (openTok ER (cell c x.1 x.2) : sProp (AM F))) :=
    Entails.of_eq (by rw [bigSep_map, bigSep_univ_prod]; rfl)
  iintro ⟨H, -⟩
  ihave H' := (mono hcore) $$ H
  ihave H2 := (unpair (F := F)) $$ H'; icases H2 with ⟨HB, H3⟩
  ihave H4 := (unpair (F := F)) $$ H3; icases H4 with ⟨Hv, HG⟩
  ihave Hu := (show bigSep Finset.univ (Gh (F := F)) ⊢ BI.own (ER (launchOf barCells scCells toks)) from
    Entails.of_eq (bigSep_onDev (F := F) 0 (BI.own (ER (launchOf barCells scCells toks))))) $$ HG
  imod (Rounds.fund_launch ER (rd (inM m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(priv c ∗ bundle m c)) fun c _ => T₀_intro m κ c)
  isplitr
  · unfold records
    isplitr; · iexact Hinv
    iexact Hr
  iapply (pair (F := F))
  isplitr [HB]
  · unfold priv
    ihave Ht := (toks_around (F := F)) $$ Htok
    icases Ht with ⟨Ht1, Ht2⟩
    iapply (pair (F := F)); isplitl [Hat]; · iapply hat $$ Hat
    iapply (pair (F := F)); isplitl [Hopen]; · iapply hopen $$ Hopen
    iapply (pair (F := F)); isplitl [Ht1]; · iexact Ht1
    iexact Ht2
  · iexact HB

/-! ## The program's segments -/

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide

/-- The host's operation, everything else riding along. -/
def seg : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (R m)

theorem reg_pre (c : Dev nD) : iprop(StableHlo.held (c : Thread nD τ) bufs (V₁ m c) ∗ R m c) ⊢ (reg m).pre c := by
  show _ ⊢ iprop(StableHlo.held (c : Thread nD τ) arrs (V₁ m c) ∗ (∃ r, prngReg c r)
    ∗ (StableHlo.held (c : Thread nD τ) rest (V₁ m c) ∗ emp) ∗ Tk m c ∗ ∃ Wd, owes (c : Thread nD τ) (0 + O₀ c) Wd)
  rw [bufs_split_rest, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(Tₙ m c ∗ ∃ W, owes (c : Thread nD τ) (0 : CellTallies nD τ sig Unit) W) := by
  show iprop(StableHlo.held (c : Thread nD τ) arrs (V₂ m c) ∗ (∃ r, prngReg c r)
    ∗ (StableHlo.held (c : Thread nD τ) rest (V₂ m c) ∗ emp) ∗ Yk c ∗ ∃ Wd, owes (c : Thread nD τ) (0 : CellTallies nD τ sig Unit) Wd) ⊢ _
  unfold Yk Tₙ
  rw [bufs_split_rest]
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (seg m), .region (reg m)]

theorem main_eq (c : Dev nD) : main (F := F) c = Pipeline.Seg.run (segs m) :=
  main_segs adm (pdats m) () 𝒱₀ L lv (seg m) (reg m) rfl c

theorem unscoped_eq : ∀ sm : SemLoc sig, sm.isScoped .tc = false → sm = .reg barS := by decide +kernel

set_option backward.isDefEq.respectTransparency.types false in
/-- THE RUN: from any memory with zero counters, on all the devices, the program ends with its arguments unchanged, with the
    sum of the gathered rows as the result on every device, and with every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outF (inM m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := Gh) (u₀ := u₀)
    (hu₀ := by
      unfold u₀ Gh
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v2) = V₂ m c main_v2) ∧ s.sem (barCell c) = 0)
    (hfin := fun c s' => by
      dsimp only [Tₙ]; rw [bufs_eq]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_of_ne m c (Proc.devRef .tc main_arg0) (by decide), V₁_ids] at h0
        rw [V₂_of_ne m c (Proc.devRef .tc main_arg1) (by decide), V₁_tab] at h1
        rw [V₂_out] at h2
        exact ⟨h0, h1, h2⟩,
      sem_eq_zero hs fun c sm hsm => by
        obtain rfl := unscoped_eq sm hsm
        exact (h c).2⟩)

end Cert.KernelIdeal.Run
-- ==== Proof.Value.lean ====
/- The result of the kernel's run over the extended reals: row `r` of every device's result is the row of the whole
   table the `r`-th id names. -/
module

public import proofs.«01_k».proof.Proof.Gather
public import Idealize.ShloMosaic.Lib.IdealHost

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable (I : In Ideal)

/-- The mask of a chunk, read at an index: whether the id of its row names a row of the device's part. -/
theorem mask_at (c : Dev nD) (ids : IVec S64x1 32) (x : S64x1024.Idx) :
    broadcastTo S64x1024 (andi (cmpi .sge ids (broadcast S64x1 (voffW c)))
      (cmpi .slt ids (broadcast S64x1 (Scalar.addi (voffW c) 8192#32)))) broadcasts_S64x1_S64x1024 x
      = BitVec.ofBool (decide (rowOf c (ids (colIx x)) < 8192)) := by
  refine (broadcastTo_apply _ _ x (colIx x) ?_).trans ?_
  · intro a; fin_cases a <;> rfl
  rw [← mask_eq]
  show BitVec.ofBool ((voffW c).sle (ids (colIx x))) &&& BitVec.ofBool ((ids (colIx x)).slt (Scalar.addi (voffW c) 8192#32)) = _
  generalize (voffW c).sle (ids (colIx x)) = p
  generalize (ids (colIx x)).slt (Scalar.addi (voffW c) 8192#32) = q
  cases p <;> cases q <;> rfl

/-- What a device contributes of chunk `k`, in extended reals: the rows its part of the table has, and zeros. -/
def cont (c : Dev nD) (k : Fin 8) (x : S64x1024.Idx) : EReal :=
  if h : rowOf c (idAt I c k ⟨(x 0).val, lt_of_lt_of_eq (x 0).isLt trips64.symm⟩) < 8192 then I.tab c (ix2 ⟨_, h⟩ (x 1)) else 0

/-- The chunk sent along x is that contribution. -/
theorem X_at (c : Dev nD) (k : Fin 8) (x : S64x1024.Idx) : (X I c k x : EReal) = cont I c k x := by
  unfold X k0_pay1
  rw [shapeCast_self, shapeCast_self, shapeCast_self]
  show (Scalar.select (broadcastTo S64x1024 (andi (cmpi .sge (idcAt I c k) (broadcast S64x1 (voffW c)))
      (cmpi .slt (idcAt I c k) (broadcast S64x1 (Scalar.addi (voffW c) 8192#32)))) broadcasts_S64x1_S64x1024 x)
    (G I c k x) (Ideal.ofBits .f32 0x00000000#32) : EReal) = _
  rw [mask_at, idcAt_eq]
  unfold cont G
  by_cases h : rowOf c (idAt I c k ⟨(x 0).val, lt_of_lt_of_eq (x 0).isLt trips64.symm⟩) < 8192
  · rw [decide_eq_true h, dif_pos h, dif_pos h]; rfl
  · rw [decide_eq_false h, dif_neg h, dif_neg h]
    exact Ideal.ofBits_zero_f32

/-- The two contributions summed. -/
theorem Y_at (c : Dev nD) (k : Fin 8) (x : S64x1024.Idx) : (Y I c k x : EReal) = cont I c k x + cont I (xp c) k x := by
  unfold Y k0_pay13 k0_pay12
  rw [shapeCast_self, ← X_at, ← X_at]
  rfl

theorem RA_at (c : Dev nD) (k : Fin 8) (x : S64x1024.Idx) : (RA I c k x : EReal) = cont I c k x + cont I (xp c) k x := by
  unfold RA k0_pay14 k0_pay12
  rw [shapeCast_self, ← X_at, ← X_at]
  rfl

theorem RB_at (c : Dev nD) (k : Fin 8) (x : S64x1024.Idx) :
    (RB I c k x : EReal) = cont I (yp c) k x + cont I (xp (yp c)) k x := by
  unfold RB k0_pay37
  rw [shapeCast_self, ← Y_at]
  rfl

/-- The row of the device's part that an id of the table names: its remainder, on the device whose part it lies in. -/
theorem rowOf_pos (c : Dev nD) (v : BitVec 32) (hv : v.toNat < 16384) (h : v.toNat / 8192 = c.val / 2) :
    rowOf c v = v.toNat % 8192 := by
  have hc : c.val / 2 = 0 ∨ c.val / 2 = 1 := by have := c.isLt; have h4 : nD = 4 := rfl; omega
  unfold rowOf
  rw [voff_cases]
  rcases hc with e | e <;> rw [e] at h ⊢
  · rw [show (Scalar.subi v (BitVec.ofNat 32 (8192 * 0)) : BitVec 32) = v from BitVec.sub_zero v]
    omega
  · rw [show (Scalar.subi v (BitVec.ofNat 32 (8192 * 1)) : BitVec 32).toNat = (2 ^ 32 - 8192 + v.toNat) % 2 ^ 32 from BitVec.toNat_sub v 8192#32]
    omega

/-- On the other devices it names none. -/
theorem rowOf_neg (c : Dev nD) (v : BitVec 32) (hv : v.toNat < 16384) (h : v.toNat / 8192 ≠ c.val / 2) :
    ¬ rowOf c v < 8192 := by
  have hc : c.val / 2 = 0 ∨ c.val / 2 = 1 := by have := c.isLt; have h4 : nD = 4 := rfl; omega
  unfold rowOf
  rw [voff_cases]
  rcases hc with e | e <;> rw [e] at h ⊢
  · rw [show (Scalar.subi v (BitVec.ofNat 32 (8192 * 0)) : BitVec 32) = v from BitVec.sub_zero v]
    omega
  · rw [show (Scalar.subi v (BitVec.ofNat 32 (8192 * 1)) : BitVec 32).toNat = (2 ^ 32 - 8192 + v.toNat) % 2 ^ 32 from BitVec.toNat_sub v 8192#32]
    omega

theorem xp_half : ∀ c : Dev nD, (xp c).val % 2 = c.val % 2 ∧ (xp c).val / 2 + c.val / 2 = 1 := by decide +kernel
theorem yp_half : ∀ c : Dev nD, (yp c).val % 2 + c.val % 2 = 1 := by decide +kernel

/-- The whole of what is launched: one vector of ids on every device, and one table of which device `c` has the
    half along x that its number names. -/
structure Whole (w : S1024.Idx → BitVec 32) (E : (⟨2, ![16384, 1024]⟩ : Shape).Idx → EReal) : Prop where
  ids : ∀ c i, I.ids c i = w i
  lt : ∀ i, (w i).toNat < 16384
  tab : ∀ (c : Dev nD) (v : ℕ) (hv : v < 16384) (r : Fin 8192) (j : Fin 1024), v / 8192 = c.val / 2 → r.val = v % 8192 →
    I.tab c (ix2 r j) = E (ix2 ⟨v, hv⟩ j)

variable {I} {w : S1024.Idx → BitVec 32} {E : (⟨2, ![16384, 1024]⟩ : Shape).Idx → EReal}

/-- The ids are read alike along x. -/
theorem Whole.idAt (W : Whole I w E) (c : Dev nD) (k : Fin 8) (t : Fin k0_t1_loop.trips) :
    idAt I c k t = w (ix1 ⟨512 * (c.val % 2) + 64 * k.val + t.val, by have := k.isLt; have ht : t.val < 64 := trips64 ▸ t.isLt; omega⟩) :=
  W.ids _ _

/-- A device whose part the id's row lies in contributes it. -/
theorem Whole.cont_pos (W : Whole I w E) (c : Dev nD) (k : Fin 8) (x : S64x1024.Idx) (r : Fin 1024)
    (hr : r.val = 512 * (c.val % 2) + 64 * k.val + (x 0).val) (h : (w (ix1 r)).toNat / 8192 = c.val / 2) :
    cont I c k x = E (ix2 ⟨(w (ix1 r)).toNat, W.lt _⟩ (x 1)) := by
  have hid : Run.idAt I c k ⟨(x 0).val, lt_of_lt_of_eq (x 0).isLt trips64.symm⟩ = w (ix1 r) := by
    rw [W.idAt]; congr 2; exact Fin.ext hr.symm
  have e := rowOf_pos c (w (ix1 r)) (W.lt _) h
  have hlt : rowOf c (Run.idAt I c k ⟨(x 0).val, lt_of_lt_of_eq (x 0).isLt trips64.symm⟩) < 8192 := by
    rw [hid, e]; exact Nat.mod_lt _ (by decide)
  unfold cont
  rw [dif_pos hlt]
  exact W.tab c _ (W.lt _) _ _ h (by show rowOf c _ = _; rw [hid, e])

/-- The other contributes zero. -/
theorem Whole.cont_neg (W : Whole I w E) (c : Dev nD) (k : Fin 8) (x : S64x1024.Idx) (r : Fin 1024)
    (hr : r.val = 512 * (c.val % 2) + 64 * k.val + (x 0).val) (h : (w (ix1 r)).toNat / 8192 ≠ c.val / 2) :
    cont I c k x = 0 := by
  have hid : Run.idAt I c k ⟨(x 0).val, lt_of_lt_of_eq (x 0).isLt trips64.symm⟩ = w (ix1 r) := by
    rw [W.idAt]; congr 2; exact Fin.ext hr.symm
  unfold cont
  rw [dif_neg (by rw [hid]; exact rowOf_neg c _ (W.lt _) h)]

/-- The contributions of the two devices along x sum to the id's row of the whole table. -/
theorem Whole.sum (W : Whole I w E) (c : Dev nD) (k : Fin 8) (x : S64x1024.Idx) (r : Fin 1024)
    (hr : r.val = 512 * (c.val % 2) + 64 * k.val + (x 0).val) :
    cont I c k x + cont I (xp c) k x = E (ix2 ⟨(w (ix1 r)).toNat, W.lt _⟩ (x 1)) := by
  have hx := xp_half c
  have hv := W.lt (ix1 r)
  by_cases h : (w (ix1 r)).toNat / 8192 = c.val / 2
  · rw [W.cont_pos c k x r hr h, W.cont_neg (xp c) k x r (by rw [hx.1]; exact hr) (by omega), add_zero]
  · rw [W.cont_neg c k x r hr h, W.cont_pos (xp c) k x r (by rw [hx.1]; exact hr) (by omega), zero_add]

/-- So every row of the result, of either half, on every device, is the row of the table its id names. -/
theorem Whole.outF (W : Whole I w E) (c : Dev nD) (i : S1024x1024.Idx) :
    (outF I c i : EReal) = E (ix2 ⟨(w (ix1 (i 0))).toNat, W.lt _⟩ (i 1)) := by
  have hi : (i 0).val < 1024 := (i 0).isLt
  have hy := yp_half c
  unfold Run.outF
  by_cases h : (i 0).val / 512 = c.val % 2
  · rw [if_pos h, RA_at]
    exact W.sum c _ _ (i 0) (by show _ = _ + 64 * ((i 0).val % 512 / 64) + (i 0).val % 64; omega)
  · rw [if_neg h, RB_at]
    exact W.sum (yp c) _ _ (i 0) (by show _ = _ + 64 * ((i 0).val % 512 / 64) + (i 0).val % 64; omega)

end Cert.KernelIdeal.Run

end
-- ==== Proof.Refer.lean ====
/- The reference's value, read at an index: the row of the table an id names, for ids of the table. -/
module

public import proofs.«01_k».proof.Proof.Gen.ReferenceIdeal
public import proofs.«01_k».proof.Proof.Sched
public import Idealize.ShloMosaic.Lib.IdealHost
public import Idealize.ShloMosaic.Lib.Pipeline.Value

@[expose] public section

noncomputable section

namespace Cert.ReferenceIdeal.Rows

open Cert.ReferenceIdeal Cert.ReferenceIdeal.Gen
open Idealize.ShloMosaic

/-- The gather's dimension numbers: whole rows, along the table's first axis. -/
abbrev dims : GatherDims S16384x1024 S1024x1 S1024x1024 := gather_S16384x1024_S1024x1_S1024x1024_1_0_n_n_0_1_11024

/-- Where the column of start indices is read for a result index: at the result's row. -/
abbrev colOf (y : S1024x1024.Idx) : S1024x1.Idx := fun a => match a with | 0 => y 0 | 1 => (0 : Fin 1)
/-- The index of a vector. -/
abbrev at1 (r : Fin 1024) : S1024.Idx := Cert.KernelIdeal.Run.ix1 r
/-- The index of the table. -/
abbrev at2 (r : Fin 16384) (j : Fin 1024) : S16384x1024.Idx := Cert.KernelIdeal.Run.ix2 r j

/-- The gather, read at an index: the row named, clamped into the table. -/
theorem gather_at {α : Type} (E : S16384x1024.Idx → α) (s : IVec S1024x1 32) (y : S1024x1024.Idx) :
    Host.gather dims E s y = E (at2 ⟨min (s (colOf y)).toInt.toNat 16383, by omega⟩ (y 1)) := by
  unfold Host.gather
  congr 1
  funext a
  refine Fin.ext ?_
  show dims.start y s a + dims.batchCoord y a + dims.offCoord y a = _
  rw [GatherDims.batchCoord_eq_zero _ _ _ List.not_mem_nil]
  fin_cases a
  · show dims.start y s 0 + 0 + dims.offCoord y 0 = min (s (colOf y)).toInt.toNat 16383
    rw [GatherDims.offCoord_eq_zero _ _ _ (fun h => ((GatherDims.mem_sKept _ _).mp h).1 (List.mem_singleton.mpr rfl))]
    unfold GatherDims.start
    rw [dif_pos (show (0 : Fin 2) ∈ dims.startIndexMap from List.mem_singleton.mpr rfl)]
    have hsi : dims.siIdx y ⟨List.idxOf (0 : Fin 2) dims.startIndexMap,
        List.idxOf_lt_length_iff.2 (List.mem_singleton.mpr rfl)⟩ = colOf y := by
      funext b; refine Fin.ext ?_
      fin_cases b <;> rfl
    rw [hsi]
    rfl
  · show dims.start y s 1 + 0 + dims.offCoord y 1 = (y 1).val
    unfold GatherDims.start
    rw [dif_neg (show ¬ (1 : Fin 2) ∈ dims.startIndexMap by decide)]
    unfold GatherDims.offCoord
    rw [dif_pos (show (1 : Fin 2) ∈ dims.sKept by decide)]
    show 0 + 0 + (y 1).val = (y 1).val
    omega

/-- An id of the table is not negative, and is read as it stands. -/
theorem id_words (v : BitVec 32) (hv : v.toNat < 16384) : BitVec.ofBool (v.slt 0#32) = 0#1 ∧ min v.toInt.toNat 16383 = v.toNat := by
  have hi : v.toInt = if 2 * v.toNat < 2 ^ 32 then (v.toNat : Int) else (v.toNat : Int) - (2 ^ 32 : Nat) := BitVec.toInt_eq_toNat_cond v
  rw [if_pos (by omega)] at hi
  constructor
  · rw [show v.slt 0#32 = false from by
      rw [BitVec.slt, hi, decide_eq_false_iff_not]
      show ¬ ((v.toNat : Int) < 0)
      omega]
    rfl
  · rw [hi]; omega

/-- The reference's result: row `r` of it is the row of the table the `r`-th id names. -/
theorem value_at (E : S16384x1024.Idx → EReal) (w : IVec S1024 32) (hw : ∀ i, (w i).toNat < 16384) (y : S1024x1024.Idx) :
    Host.gather dims E (broadcastInDim S1024x1 ![0] bcast_S1024_S1024x1_0
      (select (cmpi .slt w (broadcastInDim S1024 ![] bcast_S_S1024 (constantI S_ 32 0#32)))
        (addi w (broadcastInDim S1024 ![] bcast_S_S1024 (constantI S_ 32 16384#32))) w)) y
      = E (at2 ⟨(w (at1 (y 0))).toNat, hw _⟩ (y 1)) := by
  rw [gather_at]
  have e : broadcastInDim S1024x1 ![0] bcast_S1024_S1024x1_0
      (select (cmpi .slt w (broadcastInDim S1024 ![] bcast_S_S1024 (constantI S_ 32 0#32)))
        (addi w (broadcastInDim S1024 ![] bcast_S_S1024 (constantI S_ 32 16384#32))) w) (colOf y) = w (at1 (y 0)) := by
    refine (broadcastInDim_apply _ _ _ _ (at1 (y 0)) ?_).trans ?_
    · intro a; fin_cases a; rfl
    show Scalar.select (BitVec.ofBool ((w (at1 (y 0))).slt 0#32)) _ (w (at1 (y 0))) = _
    rw [(id_words _ (hw _)).1]
    rfl
  congr 2
  refine Fin.ext ?_
  show min _ 16383 = _
  rw [e]
  exact (id_words _ (hw _)).2

end Cert.ReferenceIdeal.Rows

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Refer

@[expose] public section

set_option maxRecDepth 16384

noncomputable section

namespace Cert.Proof

open Idealize.ShloMosaic Idealize.ShloMosaic.TcCoe Idealize.SL.Sem
open Cert.KernelIdeal.Run (run_main inM V₁_ids V₁_tab ix1 ix2 Whole)

instance preK : Cert.Pre_ids_in_table_KernelIdeal.Facts := ⟨by decide⟩
instance preR : Cert.Pre_ids_in_table_ReferenceIdeal.Facts := ⟨by decide⟩

/-- The two programs' bodies under their labels are the same. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- The two programs' tables of bodies are the same. -/
theorem defs_eq : Cert.Kernel.defs (F := Bits) = Cert.KernelIdeal.defs (F := Bits) :=
  congrArg (Pipeline.defs (Cert.Kernel.pcfgs (F := Bits))) bodies_eq

/-- The kernel over the machine's floats: its program is the idealized one's, whose run is over any floats. -/
theorem frame_kernel : Cert.quiescent_Kernel := by
  intro m ρ _
  rw [defs_eq]
  exact (θ_run (Cert.KernelIdeal.defs (F := Bits)) _ _).mono (fun _ h => ⟨fun c => ⟨(h.1 c).1, (h.1 c).2.1⟩, h.2⟩) (run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference over the extended reals: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The precondition, read of one id: it lies in the table. -/
theorem pre_lt (w : IVec Cert.Pre_ids_in_table_KernelIdeal.S1024 32) (t : FVec Ideal Cert.Pre_ids_in_table_KernelIdeal.S8192x1024 .f32)
    (h : Cert.Pre_ids_in_table_KernelIdeal.fn (F := Ideal) w t = fun _ => 1#1) (i : Cert.Pre_ids_in_table_KernelIdeal.S1024.Idx) :
    (w i).toNat < 16384 := by
  have hi : BitVec.ofBool ((0#32).sle (w i)) &&& BitVec.ofBool ((w i).slt 16384#32) = 1#1 := congrFun h i
  have hc : (w i).toInt = if 2 * (w i).toNat < 2 ^ 32 then ((w i).toNat : Int) else ((w i).toNat : Int) - (2 ^ 32 : Nat) := BitVec.toInt_eq_toNat_cond (w i)
  have hb : ((0#32).sle (w i) && (w i).slt 16384#32) = true := by
    revert hi
    generalize (0#32).sle (w i) = p
    generalize (w i).slt 16384#32 = q
    cases p <;> cases q <;> decide
  rw [BitVec.sle, BitVec.slt, Bool.and_eq_true, decide_eq_true_eq, decide_eq_true_eq,
    show (0#32 : BitVec 32).toInt = 0 from rfl, show (16384#32 : BitVec 32).toInt = 16384 from rfl] at hb
  have hl := (w i).isLt
  split at hc <;> omega

/-- Row `v` of the table lies in the block of the devices whose number halved is `v / 8192`. -/
theorem block_row {α : Type} (E : (⟨2, ![16384, 1024]⟩ : Shape).Idx → α) (c : Dev Cert.KernelIdeal.nD) (v : ℕ) (hv : v < 16384)
    (r : Fin 8192) (j : Fin 1024) (h : v / 8192 = c.val / 2) (hr : r.val = v % 8192) :
    Layout.blockN ⟨2, ![8192, 1024]⟩ ⟨2, ![16384, 1024]⟩ (Layout.meshBlock [2, 2] ![[0], []] c) E (by decide) (ix2 r j) = E (ix2 ⟨v, hv⟩ j) := by
  rw [Layout.blockN_apply]
  congr 1
  funext a
  refine Fin.ext ?_
  rw [Layout.TilesN.idx_val]
  have hc : c.val < 4 := c.isLt
  fin_cases a
  · show ((c.val / (2 * 1)) % 2 * 1 + 0) * 8192 + r.val = v
    omega
  · show 0 * 1024 + j.val = j.val
    omega

/-- The kernel's result is the reference's, from ids of the table: each is the table's row the id names. -/
theorem algebraic : Cert.algebraic_KernelIdeal_ReferenceIdeal_pre_ids_in_table_KernelIdeal := by
  intro m ρ m' ρ' hpre hag
  have W : Whole (inM (F := Ideal) m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    { ids := fun c i => congrFun ((V₁_ids m c).trans (hag c).1) i
      lt := fun i => by
        rw [← (hag 0).1]
        exact pre_lt _ _ (hpre 0) i
      tab := fun c v hv r j h hr => (congrFun ((V₁_tab m c).trans (hag c).2) (ix2 r j)).trans (block_row _ c v hv r j h hr) }
  refine ⟨fun i => (m' (((0 : Dev Cert.ReferenceIdeal.nD).tc : Thread Cert.ReferenceIdeal.nD Cert.ReferenceIdeal.τ).loc Cert.ReferenceIdeal.main_arg1))
      (ix2 ⟨_, W.lt (ix1 (i 0))⟩ (i 1)), ?_, ?_⟩
  · exact (θ_run Cert.KernelIdeal.defs _ _).mono
      (fun _ h c => ⟨(h.1 c).2.2.trans (funext fun i => W.outF c i), (h.1 c).1, (h.1 c).2.1⟩) (run_main (F := Ideal) m ρ)
  · exact (θ_run Cert.ReferenceIdeal.defs _ _).mono
      (fun _ h => ⟨(h 0).1.trans (funext fun i => Cert.ReferenceIdeal.Rows.value_at
        (m' (((0 : Dev Cert.ReferenceIdeal.nD).tc : Thread Cert.ReferenceIdeal.nD Cert.ReferenceIdeal.τ).loc Cert.ReferenceIdeal.main_arg1)) _ W.lt i), (h 0).2⟩)
      (Cert.ReferenceIdeal.Value.run (F := Ideal) m' ρ')

theorem claim : Cert.Claim :=
  ⟨Cert.Kernel.Gen.facts, Cert.KernelIdeal.Gen.facts, Cert.ReferenceIdeal.Gen.facts, preK, preR,
    frame_kernel, frame_ideal, fun m ρ _ => frame_ideal m ρ trivial, frame_reference, fun m ρ _ => frame_reference m ρ trivial,
    trivial, algebraic⟩

end Cert.Proof

end
